-- ==== Defs.lean ====
def Pre_Kernel [hPre_channels_named : Cert.Pre_channels_named.Facts] (m : (ℓ : Loc Cert.Kernel.nD Cert.Kernel.τ Cert.Kernel.sig) → Buf (Elt Bits) ℓ) : Prop :=
  ∀ c : Dev Cert.Kernel.nD,
    (Cert.Pre_channels_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_channels_named : Cert.Pre_channels_named.Facts] (m : (ℓ : Loc Cert.KernelIdeal.nD Cert.KernelIdeal.τ Cert.KernelIdeal.sig) → Buf (Elt Ideal) ℓ) : Prop :=
  ∀ c : Dev Cert.KernelIdeal.nD,
    (Cert.Pre_channels_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2.2.2.2.2 = (fun _ => 1#1)

def quiescent_Kernel [hKernel : Cert.Kernel.Facts] [hPre_channels_named : Cert.Pre_channels_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_channels_named : Cert.Pre_channels_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_channels_named : Cert.Pre_channels_named.Facts) (hPre_drawn : Cert.Pre_drawn.Facts),
    quiescent_Kernel (hKernel := hKernel) (hPre_channels_named := hPre_channels_named)
    ∧ quiescent_KernelIdeal (hKernelIdeal := hKernelIdeal) (hPre_channels_named := hPre_channels_named)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_channels_named.lean ====
abbrev S2x96x224x224 : Shape := ⟨4, ![2, 96, 224, 224]⟩
abbrev S8x16x4 : Shape := ⟨3, ![8, 16, 4]⟩
abbrev S4x16x4 : Shape := ⟨3, ![4, 16, 4]⟩
abbrev S2x16x4 : Shape := ⟨3, ![2, 16, 4]⟩
abbrev S1x16x4 : Shape := ⟨3, ![1, 16, 4]⟩
abbrev S2x16x98568x3 : Shape := ⟨4, ![2, 16, 98568, 3]⟩
abbrev S2x49284 : Shape := ⟨2, ![2, 49284]⟩
abbrev S2x24642 : Shape := ⟨2, ![2, 24642]⟩
abbrev S2x12321 : Shape := ⟨2, ![2, 12321]⟩
abbrev S2x16x98568x1 : Shape := ⟨4, ![2, 16, 98568, 1]⟩
abbrev S2x16x98568 : Shape := ⟨3, ![2, 16, 98568]⟩
abbrev S_ : Shape := ⟨0, ![]⟩

class Facts : Prop where
  slices_S2x16x98568x3_S2x16x98568x1_0_0_0_2 : S2x16x98568x3.Slices ![0, 0, 0, 2] S2x16x98568x1
  shapeCasts_S2x16x98568x1_S2x16x98568 : S2x16x98568x1.ShapeCasts S2x16x98568
  bcast_S_S2x16x98568 : S_.BroadcastsInDim S2x16x98568 (![] : Fin 0 → Fin S2x16x98568.rank)

variable [Facts]

def fn {F : FTy → Type} [FloatOps F] (main_arg0 : FVec F S2x96x224x224 .f32) (main_arg1 : FVec F S8x16x4 .f32) (main_arg2 : FVec F S4x16x4 .f32) (main_arg3 : FVec F S2x16x4 .f32) (main_arg4 : FVec F S1x16x4 .f32) (main_arg5 : IVec S2x16x98568x3 32) (main_arg6 : IVec S2x49284 32) (main_arg7 : IVec S2x24642 32) (main_arg8 : IVec S2x12321 32) : IVec S2x16x98568 1 :=
  let main_v0 : IVec S2x16x98568x1 32 := (extractStridedSlice S2x16x98568x1 ![0, 0, 0, 2] · slices_S2x16x98568x3_S2x16x98568x1_0_0_0_2) main_arg5
  let main_v1 : IVec S2x16x98568 32 := shapeCast S2x16x98568 main_v0 shapeCasts_S2x16x98568x1_S2x16x98568
  let main_c : IVec S_ 32 := constantI S_ 32 0#32
  let main_v2 : IVec S2x16x98568 32 := broadcastInDim S2x16x98568 ![] bcast_S_S2x16x98568 main_c
  let main_v3 : IVec S2x16x98568 1 := cmpi .sge main_v1 main_v2
  let main_c_0 : IVec S_ 32 := constantI S_ 32 95#32
  let main_v4 : IVec S2x16x98568 32 := broadcastInDim S2x16x98568 ![] bcast_S_S2x16x98568 main_c_0
  let main_v5 : IVec S2x16x98568 1 := cmpi .sle main_v1 main_v4
  let main_v6 : IVec S2x16x98568 1 := andi main_v3 main_v5
  main_v6
-- ==== Pre_drawn.lean ====
abbrev S2x96x224x224 : Shape := ⟨4, ![2, 96, 224, 224]⟩
abbrev S8x16x4 : Shape := ⟨3, ![8, 16, 4]⟩
abbrev S4x16x4 : Shape := ⟨3, ![4, 16, 4]⟩
abbrev S2x16x4 : Shape := ⟨3, ![2, 16, 4]⟩
abbrev S1x16x4 : Shape := ⟨3, ![1, 16, 4]⟩
abbrev S2x16x98568x3 : Shape := ⟨4, ![2, 16, 98568, 3]⟩
abbrev S2x49284 : Shape := ⟨2, ![2, 49284]⟩
abbrev S2x24642 : Shape := ⟨2, ![2, 24642]⟩
abbrev S2x12321 : Shape := ⟨2, ![2, 12321]⟩
abbrev S2x16x8x111x111x3 : Shape := ⟨6, ![2, 16, 8, 111, 111, 3]⟩
abbrev S2x16x8x1x1x3 : Shape := ⟨6, ![2, 16, 8, 1, 1, 3]⟩
abbrev S2x16x8x111x111 : Shape := ⟨5, ![2, 16, 8, 111, 111]⟩
abbrev S_ : Shape := ⟨0, ![]⟩
abbrev S2x16x8x111x111x1 : Shape := ⟨6, ![2, 16, 8, 111, 111, 1]⟩
abbrev S2x16x8x1x1x1 : Shape := ⟨6, ![2, 16, 8, 1, 1, 1]⟩
abbrev S2x16x8x1x1 : Shape := ⟨5, ![2, 16, 8, 1, 1]⟩
abbrev S2x4x12321 : Shape := ⟨3, ![2, 4, 12321]⟩
abbrev S2x2x12321 : Shape := ⟨3, ![2, 2, 12321]⟩
abbrev S2x1x12321 : Shape := ⟨3, ![2, 1, 12321]⟩

class Facts : Prop where
  shapeCasts_S2x16x98568x3_S2x16x8x111x111x3 : S2x16x98568x3.ShapeCasts S2x16x8x111x111x3
  slices_S2x16x8x111x111x3_S2x16x8x1x1x3_0_0_0_0_0_0 : S2x16x8x111x111x3.Slices ![0, 0, 0, 0, 0, 0] S2x16x8x1x1x3
  bcast_S_S2x96x224x224 : S_.BroadcastsInDim S2x96x224x224 (![] : Fin 0 → Fin S2x96x224x224.rank)
  bcast_S_S8x16x4 : S_.BroadcastsInDim S8x16x4 (![] : Fin 0 → Fin S8x16x4.rank)
  bcast_S_S4x16x4 : S_.BroadcastsInDim S4x16x4 (![] : Fin 0 → Fin S4x16x4.rank)
  bcast_S_S2x16x4 : S_.BroadcastsInDim S2x16x4 (![] : Fin 0 → Fin S2x16x4.rank)
  bcast_S_S1x16x4 : S_.BroadcastsInDim S1x16x4 (![] : Fin 0 → Fin S1x16x4.rank)
  slices_S2x16x8x111x111x3_S2x16x8x111x111x1_0_0_0_0_0_0 : S2x16x8x111x111x3.Slices ![0, 0, 0, 0, 0, 0] S2x16x8x111x111x1
  shapeCasts_S2x16x8x111x111x1_S2x16x8x111x111 : S2x16x8x111x111x1.ShapeCasts S2x16x8x111x111
  slices_S2x16x8x1x1x3_S2x16x8x1x1x1_0_0_0_0_0_0 : S2x16x8x1x1x3.Slices ![0, 0, 0, 0, 0, 0] S2x16x8x1x1x1
  shapeCasts_S2x16x8x1x1x1_S2x16x8x1x1 : S2x16x8x1x1x1.ShapeCasts S2x16x8x1x1
  bcast_S_S2x16x8x111x111 : S_.BroadcastsInDim S2x16x8x111x111 (![] : Fin 0 → Fin S2x16x8x111x111.rank)
  bcast_S2x16x8x1x1_S2x16x8x111x111_0_1_2_3_4 : S2x16x8x1x1.BroadcastsInDim S2x16x8x111x111 (![0, 1, 2, 3, 4] : Fin 5 → Fin S2x16x8x111x111.rank)
  slices_S2x16x8x111x111x3_S2x16x8x111x111x1_0_0_0_0_0_1 : S2x16x8x111x111x3.Slices ![0, 0, 0, 0, 0, 1] S2x16x8x111x111x1
  slices_S2x16x8x1x1x3_S2x16x8x1x1x1_0_0_0_0_0_1 : S2x16x8x1x1x3.Slices ![0, 0, 0, 0, 0, 1] S2x16x8x1x1x1
  slices_S2x16x8x111x111x3_S2x16x8x111x111x1_0_0_0_0_0_2 : S2x16x8x111x111x3.Slices ![0, 0, 0, 0, 0, 2] S2x16x8x111x111x1
  slices_S2x16x8x1x1x3_S2x16x8x1x1x1_0_0_0_0_0_2 : S2x16x8x1x1x3.Slices ![0, 0, 0, 0, 0, 2] S2x16x8x1x1x1
  bcast_S_S2x16x8x1x1 : S_.BroadcastsInDim S2x16x8x1x1 (![] : Fin 0 → Fin S2x16x8x1x1.rank)
  shapeCasts_S2x49284_S2x4x12321 : S2x49284.ShapeCasts S2x4x12321
  bcast_S_S2x4x12321 : S_.BroadcastsInDim S2x4x12321 (![] : Fin 0 → Fin S2x4x12321.rank)
  shapeCasts_S2x24642_S2x2x12321 : S2x24642.ShapeCasts S2x2x12321
  bcast_S_S2x2x12321 : S_.BroadcastsInDim S2x2x12321 (![] : Fin 0 → Fin S2x2x12321.rank)
  shapeCasts_S2x12321_S2x1x12321 : S2x12321.ShapeCasts S2x1x12321
  bcast_S_S2x1x12321 : S_.BroadcastsInDim S2x1x12321 (![] : Fin 0 → Fin S2x1x12321.rank)

variable [Facts]

def fn_part5 {F : FTy → Type} [FloatOps F] (main_v6 : IVec S2x96x224x224 1) (main_v9 : IVec S8x16x4 1) (main_v12 : IVec S4x16x4 1) (main_v15 : IVec S2x16x4 1) (main_v18 : IVec S1x16x4 1) (main_v27 : IVec S2x16x8x111x111 1) (main_v36 : IVec S2x16x8x111x111 1) (main_v42 : IVec S2x16x8x111x111 1) (main_v51 : IVec S2x16x8x1x1 1) (main_v60 : IVec S2x16x8x1x1 1) (main_v69 : IVec S2x16x8x1x1 1) (main_v80 : IVec S2x4x12321 1) (main_v91 : IVec S2x2x12321 1) (main_v92 : IVec S2x1x12321 32) (main_v95 : IVec S2x1x12321 32) (main_v100 : IVec S2x1x12321 32) : IVec S2x96x224x224 1 × IVec S8x16x4 1 × IVec S4x16x4 1 × IVec S2x16x4 1 × IVec S1x16x4 1 × IVec S2x16x8x111x111 1 × IVec S2x16x8x111x111 1 × IVec S2x16x8x111x111 1 × IVec S2x16x8x1x1 1 × IVec S2x16x8x1x1 1 × IVec S2x16x8x1x1 1 × IVec S2x4x12321 1 × IVec S2x2x12321 1 × IVec S2x1x12321 1 :=
  let main_v101 : IVec S2x1x12321 32 := addi main_v100 main_v95
  let main_v102 : IVec S2x1x12321 1 := cmpi .eq main_v92 main_v101
  (main_v6, main_v9, main_v12, main_v15, main_v18, main_v27, main_v36, main_v42, main_v51, main_v60, main_v69, main_v80, main_v91, main_v102)

def fn_part4 {F : FTy → Type} [FloatOps F] (main_arg7 : IVec S2x24642 32) (main_arg8 : IVec S2x12321 32) (main_v6 : IVec S2x96x224x224 1) (main_v9 : IVec S8x16x4 1) (main_v12 : IVec S4x16x4 1) (main_v15 : IVec S2x16x4 1) (main_v18 : IVec S1x16x4 1) (main_v27 : IVec S2x16x8x111x111 1) (main_v36 : IVec S2x16x8x111x111 1) (main_v42 : IVec S2x16x8x111x111 1) (main_v51 : IVec S2x16x8x1x1 1) (main_v60 : IVec S2x16x8x1x1 1) (main_v69 : IVec S2x16x8x1x1 1) (main_v80 : IVec S2x4x12321 1) : IVec S2x96x224x224 1 × IVec S8x16x4 1 × IVec S4x16x4 1 × IVec S2x16x4 1 × IVec S1x16x4 1 × IVec S2x16x8x111x111 1 × IVec S2x16x8x111x111 1 × IVec S2x16x8x111x111 1 × IVec S2x16x8x1x1 1 × IVec S2x16x8x1x1 1 × IVec S2x16x8x1x1 1 × IVec S2x4x12321 1 × IVec S2x2x12321 1 × IVec S2x1x12321 1 :=
  let main_v81 : IVec S2x2x12321 32 := shapeCast S2x2x12321 main_arg7 shapeCasts_S2x24642_S2x2x12321
  let main_v82 : IVec S2x2x12321 32 := iotaInDim S2x2x12321 32 0
  let main_v83 : IVec S2x2x12321 32 := iotaInDim S2x2x12321 32 1
  let main_v84 : IVec S2x2x12321 32 := iotaInDim S2x2x12321 32 2
  let main_c_13 : IVec S_ 32 := constantI S_ 32 2#32
  let main_v85 : IVec S2x2x12321 32 := broadcastInDim S2x2x12321 ![] bcast_S_S2x2x12321 main_c_13
  let main_v86 : IVec S2x2x12321 32 := muli main_v85 main_v83
  let main_v87 : IVec S2x2x12321 32 := addi main_v86 main_v82
  let main_c_14 : IVec S_ 32 := constantI S_ 32 12321#32
  let main_v88 : IVec S2x2x12321 32 := broadcastInDim S2x2x12321 ![] bcast_S_S2x2x12321 main_c_14
  let main_v89 : IVec S2x2x12321 32 := muli main_v87 main_v88
  let main_v90 : IVec S2x2x12321 32 := addi main_v89 main_v84
  let main_v91 : IVec S2x2x12321 1 := cmpi .eq main_v81 main_v90
  let main_v92 : IVec S2x1x12321 32 := shapeCast S2x1x12321 main_arg8 shapeCasts_S2x12321_S2x1x12321
  let main_v93 : IVec S2x1x12321 32 := iotaInDim S2x1x12321 32 0
  let main_v94 : IVec S2x1x12321 32 := iotaInDim S2x1x12321 32 1
  let main_v95 : IVec S2x1x12321 32 := iotaInDim S2x1x12321 32 2
  let main_c_15 : IVec S_ 32 := constantI S_ 32 2#32
  let main_v96 : IVec S2x1x12321 32 := broadcastInDim S2x1x12321 ![] bcast_S_S2x1x12321 main_c_15
  let main_v97 : IVec S2x1x12321 32 := muli main_v96 main_v94
  let main_v98 : IVec S2x1x12321 32 := addi main_v97 main_v93
  let main_c_16 : IVec S_ 32 := constantI S_ 32 12321#32
  let main_v99 : IVec S2x1x12321 32 := broadcastInDim S2x1x12321 ![] bcast_S_S2x1x12321 main_c_16
  let main_v100 : IVec S2x1x12321 32 := muli main_v98 main_v99
  fn_part5 (F := F) main_v6 main_v9 main_v12 main_v15 main_v18 main_v27 main_v36 main_v42 main_v51 main_v60 main_v69 main_v80 main_v91 main_v92 main_v95 main_v100

def fn_part3 {F : FTy → Type} [FloatOps F] (main_arg6 : IVec S2x49284 32) (main_arg7 : IVec S2x24642 32) (main_arg8 : IVec S2x12321 32) (main_v1 : IVec S2x16x8x1x1x3 32) (main_v6 : IVec S2x96x224x224 1) (main_v9 : IVec S8x16x4 1) (main_v12 : IVec S4x16x4 1) (main_v15 : IVec S2x16x4 1) (main_v18 : IVec S1x16x4 1) (main_v27 : IVec S2x16x8x111x111 1) (main_v36 : IVec S2x16x8x111x111 1) (main_v42 : IVec S2x16x8x111x111 1) (main_v51 : IVec S2x16x8x1x1 1) (main_v60 : IVec S2x16x8x1x1 1) : IVec S2x96x224x224 1 × IVec S8x16x4 1 × IVec S4x16x4 1 × IVec S2x16x4 1 × IVec S1x16x4 1 × IVec S2x16x8x111x111 1 × IVec S2x16x8x111x111 1 × IVec S2x16x8x111x111 1 × IVec S2x16x8x1x1 1 × IVec S2x16x8x1x1 1 × IVec S2x16x8x1x1 1 × IVec S2x4x12321 1 × IVec S2x2x12321 1 × IVec S2x1x12321 1 :=
  let main_v61 : IVec S2x16x8x1x1x1 32 := (extractStridedSlice S2x16x8x1x1x1 ![0, 0, 0, 0, 0, 2] · slices_S2x16x8x1x1x3_S2x16x8x1x1x1_0_0_0_0_0_2) main_v1
  let main_v62 : IVec S2x16x8x1x1 32 := shapeCast S2x16x8x1x1 main_v61 shapeCasts_S2x16x8x1x1x1_S2x16x8x1x1
  let main_c_9 : IVec S_ 32 := constantI S_ 32 0#32
  let main_v63 : IVec S2x16x8x1x1 32 := broadcastInDim S2x16x8x1x1 ![] bcast_S_S2x16x8x1x1 main_c_9
  let main_v64 : IVec S2x16x8x1x1 1 := cmpi .sge main_v62 main_v63
  let main_v65 : IVec S2x16x8x1x1x1 32 := (extractStridedSlice S2x16x8x1x1x1 ![0, 0, 0, 0, 0, 2] · slices_S2x16x8x1x1x3_S2x16x8x1x1x1_0_0_0_0_0_2) main_v1
  let main_v66 : IVec S2x16x8x1x1 32 := shapeCast S2x16x8x1x1 main_v65 shapeCasts_S2x16x8x1x1x1_S2x16x8x1x1
  let main_c_10 : IVec S_ 32 := constantI S_ 32 95#32
  let main_v67 : IVec S2x16x8x1x1 32 := broadcastInDim S2x16x8x1x1 ![] bcast_S_S2x16x8x1x1 main_c_10
  let main_v68 : IVec S2x16x8x1x1 1 := cmpi .sle main_v66 main_v67
  let main_v69 : IVec S2x16x8x1x1 1 := andi main_v64 main_v68
  let main_v70 : IVec S2x4x12321 32 := shapeCast S2x4x12321 main_arg6 shapeCasts_S2x49284_S2x4x12321
  let main_v71 : IVec S2x4x12321 32 := iotaInDim S2x4x12321 32 0
  let main_v72 : IVec S2x4x12321 32 := iotaInDim S2x4x12321 32 1
  let main_v73 : IVec S2x4x12321 32 := iotaInDim S2x4x12321 32 2
  let main_c_11 : IVec S_ 32 := constantI S_ 32 2#32
  let main_v74 : IVec S2x4x12321 32 := broadcastInDim S2x4x12321 ![] bcast_S_S2x4x12321 main_c_11
  let main_v75 : IVec S2x4x12321 32 := muli main_v74 main_v72
  let main_v76 : IVec S2x4x12321 32 := addi main_v75 main_v71
  let main_c_12 : IVec S_ 32 := constantI S_ 32 12321#32
  let main_v77 : IVec S2x4x12321 32 := broadcastInDim S2x4x12321 ![] bcast_S_S2x4x12321 main_c_12
  let main_v78 : IVec S2x4x12321 32 := muli main_v76 main_v77
  let main_v79 : IVec S2x4x12321 32 := addi main_v78 main_v73
  let main_v80 : IVec S2x4x12321 1 := cmpi .eq main_v70 main_v79
  fn_part4 (F := F) main_arg7 main_arg8 main_v6 main_v9 main_v12 main_v15 main_v18 main_v27 main_v36 main_v42 main_v51 main_v60 main_v69 main_v80

def fn_part2 {F : FTy → Type} [FloatOps F] (main_arg6 : IVec S2x49284 32) (main_arg7 : IVec S2x24642 32) (main_arg8 : IVec S2x12321 32) (main_v1 : IVec S2x16x8x1x1x3 32) (main_v6 : IVec S2x96x224x224 1) (main_v9 : IVec S8x16x4 1) (main_v12 : IVec S4x16x4 1) (main_v15 : IVec S2x16x4 1) (main_v18 : IVec S1x16x4 1) (main_v27 : IVec S2x16x8x111x111 1) (main_v36 : IVec S2x16x8x111x111 1) (main_v38 : IVec S2x16x8x111x111 32) (main_v40 : IVec S2x16x8x1x1 32) : IVec S2x96x224x224 1 × IVec S8x16x4 1 × IVec S4x16x4 1 × IVec S2x16x4 1 × IVec S1x16x4 1 × IVec S2x16x8x111x111 1 × IVec S2x16x8x111x111 1 × IVec S2x16x8x111x111 1 × IVec S2x16x8x1x1 1 × IVec S2x16x8x1x1 1 × IVec S2x16x8x1x1 1 × IVec S2x4x12321 1 × IVec S2x2x12321 1 × IVec S2x1x12321 1 :=
  let main_v41 : IVec S2x16x8x111x111 32 := broadcastInDim S2x16x8x111x111 ![0, 1, 2, 3, 4] bcast_S2x16x8x1x1_S2x16x8x111x111_0_1_2_3_4 main_v40
  let main_v42 : IVec S2x16x8x111x111 1 := cmpi .eq main_v38 main_v41
  let main_v43 : IVec S2x16x8x1x1x1 32 := (extractStridedSlice S2x16x8x1x1x1 ![0, 0, 0, 0, 0, 0] · slices_S2x16x8x1x1x3_S2x16x8x1x1x1_0_0_0_0_0_0) main_v1
  let main_v44 : IVec S2x16x8x1x1 32 := shapeCast S2x16x8x1x1 main_v43 shapeCasts_S2x16x8x1x1x1_S2x16x8x1x1
  let main_c_5 : IVec S_ 32 := constantI S_ 32 0#32
  let main_v45 : IVec S2x16x8x1x1 32 := broadcastInDim S2x16x8x1x1 ![] bcast_S_S2x16x8x1x1 main_c_5
  let main_v46 : IVec S2x16x8x1x1 1 := cmpi .sge main_v44 main_v45
  let main_v47 : IVec S2x16x8x1x1x1 32 := (extractStridedSlice S2x16x8x1x1x1 ![0, 0, 0, 0, 0, 0] · slices_S2x16x8x1x1x3_S2x16x8x1x1x1_0_0_0_0_0_0) main_v1
  let main_v48 : IVec S2x16x8x1x1 32 := shapeCast S2x16x8x1x1 main_v47 shapeCasts_S2x16x8x1x1x1_S2x16x8x1x1
  let main_c_6 : IVec S_ 32 := constantI S_ 32 2#32
  let main_v49 : IVec S2x16x8x1x1 32 := broadcastInDim S2x16x8x1x1 ![] bcast_S_S2x16x8x1x1 main_c_6
  let main_v50 : IVec S2x16x8x1x1 1 := cmpi .sle main_v48 main_v49
  let main_v51 : IVec S2x16x8x1x1 1 := andi main_v46 main_v50
  let main_v52 : IVec S2x16x8x1x1x1 32 := (extractStridedSlice S2x16x8x1x1x1 ![0, 0, 0, 0, 0, 1] · slices_S2x16x8x1x1x3_S2x16x8x1x1x1_0_0_0_0_0_1) main_v1
  let main_v53 : IVec S2x16x8x1x1 32 := shapeCast S2x16x8x1x1 main_v52 shapeCasts_S2x16x8x1x1x1_S2x16x8x1x1
  let main_c_7 : IVec S_ 32 := constantI S_ 32 0#32
  let main_v54 : IVec S2x16x8x1x1 32 := broadcastInDim S2x16x8x1x1 ![] bcast_S_S2x16x8x1x1 main_c_7
  let main_v55 : IVec S2x16x8x1x1 1 := cmpi .sge main_v53 main_v54
  let main_v56 : IVec S2x16x8x1x1x1 32 := (extractStridedSlice S2x16x8x1x1x1 ![0, 0, 0, 0, 0, 1] · slices_S2x16x8x1x1x3_S2x16x8x1x1x1_0_0_0_0_0_1) main_v1
  let main_v57 : IVec S2x16x8x1x1 32 := shapeCast S2x16x8x1x1 main_v56 shapeCasts_S2x16x8x1x1x1_S2x16x8x1x1
  let main_c_8 : IVec S_ 32 := constantI S_ 32 2#32
  let main_v58 : IVec S2x16x8x1x1 32 := broadcastInDim S2x16x8x1x1 ![] bcast_S_S2x16x8x1x1 main_c_8
  let main_v59 : IVec S2x16x8x1x1 1 := cmpi .sle main_v57 main_v58
  let main_v60 : IVec S2x16x8x1x1 1 := andi main_v55 main_v59
  fn_part3 (F := F) main_arg6 main_arg7 main_arg8 main_v1 main_v6 main_v9 main_v12 main_v15 main_v18 main_v27 main_v36 main_v42 main_v51 main_v60

def fn_part1 {F : FTy → Type} [FloatOps F] (main_arg6 : IVec S2x49284 32) (main_arg7 : IVec S2x24642 32) (main_arg8 : IVec S2x12321 32) (main_v0 : IVec S2x16x8x111x111x3 32) (main_v1 : IVec S2x16x8x1x1x3 32) (main_v2 : IVec S2x16x8x111x111 32) (main_v3 : IVec S2x16x8x111x111 32) (main_v6 : IVec S2x96x224x224 1) (main_v9 : IVec S8x16x4 1) (main_v12 : IVec S4x16x4 1) (main_v15 : IVec S2x16x4 1) (main_v18 : IVec S1x16x4 1) : IVec S2x96x224x224 1 × IVec S8x16x4 1 × IVec S4x16x4 1 × IVec S2x16x4 1 × IVec S1x16x4 1 × IVec S2x16x8x111x111 1 × IVec S2x16x8x111x111 1 × IVec S2x16x8x111x111 1 × IVec S2x16x8x1x1 1 × IVec S2x16x8x1x1 1 × IVec S2x16x8x1x1 1 × IVec S2x4x12321 1 × IVec S2x2x12321 1 × IVec S2x1x12321 1 :=
  let main_v19 : IVec S2x16x8x111x111x1 32 := (extractStridedSlice S2x16x8x111x111x1 ![0, 0, 0, 0, 0, 0] · slices_S2x16x8x111x111x3_S2x16x8x111x111x1_0_0_0_0_0_0) main_v0
  let main_v20 : IVec S2x16x8x111x111 32 := shapeCast S2x16x8x111x111 main_v19 shapeCasts_S2x16x8x111x111x1_S2x16x8x111x111
  let main_v21 : IVec S2x16x8x1x1x1 32 := (extractStridedSlice S2x16x8x1x1x1 ![0, 0, 0, 0, 0, 0] · slices_S2x16x8x1x1x3_S2x16x8x1x1x1_0_0_0_0_0_0) main_v1
  let main_v22 : IVec S2x16x8x1x1 32 := shapeCast S2x16x8x1x1 main_v21 shapeCasts_S2x16x8x1x1x1_S2x16x8x1x1
  let main_c : IVec S_ 32 := constantI S_ 32 2#32
  let main_v23 : IVec S2x16x8x111x111 32 := broadcastInDim S2x16x8x111x111 ![] bcast_S_S2x16x8x111x111 main_c
  let main_v24 : IVec S2x16x8x111x111 32 := muli main_v23 main_v2
  let main_v25 : IVec S2x16x8x111x111 32 := broadcastInDim S2x16x8x111x111 ![0, 1, 2, 3, 4] bcast_S2x16x8x1x1_S2x16x8x111x111_0_1_2_3_4 main_v22
  let main_v26 : IVec S2x16x8x111x111 32 := addi main_v25 main_v24
  let main_v27 : IVec S2x16x8x111x111 1 := cmpi .eq main_v20 main_v26
  let main_v28 : IVec S2x16x8x111x111x1 32 := (extractStridedSlice S2x16x8x111x111x1 ![0, 0, 0, 0, 0, 1] · slices_S2x16x8x111x111x3_S2x16x8x111x111x1_0_0_0_0_0_1) main_v0
  let main_v29 : IVec S2x16x8x111x111 32 := shapeCast S2x16x8x111x111 main_v28 shapeCasts_S2x16x8x111x111x1_S2x16x8x111x111
  let main_v30 : IVec S2x16x8x1x1x1 32 := (extractStridedSlice S2x16x8x1x1x1 ![0, 0, 0, 0, 0, 1] · slices_S2x16x8x1x1x3_S2x16x8x1x1x1_0_0_0_0_0_1) main_v1
  let main_v31 : IVec S2x16x8x1x1 32 := shapeCast S2x16x8x1x1 main_v30 shapeCasts_S2x16x8x1x1x1_S2x16x8x1x1
  let main_c_4 : IVec S_ 32 := constantI S_ 32 2#32
  let main_v32 : IVec S2x16x8x111x111 32 := broadcastInDim S2x16x8x111x111 ![] bcast_S_S2x16x8x111x111 main_c_4
  let main_v33 : IVec S2x16x8x111x111 32 := muli main_v32 main_v3
  let main_v34 : IVec S2x16x8x111x111 32 := broadcastInDim S2x16x8x111x111 ![0, 1, 2, 3, 4] bcast_S2x16x8x1x1_S2x16x8x111x111_0_1_2_3_4 main_v31
  let main_v35 : IVec S2x16x8x111x111 32 := addi main_v34 main_v33
  let main_v36 : IVec S2x16x8x111x111 1 := cmpi .eq main_v29 main_v35
  let main_v37 : IVec S2x16x8x111x111x1 32 := (extractStridedSlice S2x16x8x111x111x1 ![0, 0, 0, 0, 0, 2] · slices_S2x16x8x111x111x3_S2x16x8x111x111x1_0_0_0_0_0_2) main_v0
  let main_v38 : IVec S2x16x8x111x111 32 := shapeCast S2x16x8x111x111 main_v37 shapeCasts_S2x16x8x111x111x1_S2x16x8x111x111
  let main_v39 : IVec S2x16x8x1x1x1 32 := (extractStridedSlice S2x16x8x1x1x1 ![0, 0, 0, 0, 0, 2] · slices_S2x16x8x1x1x3_S2x16x8x1x1x1_0_0_0_0_0_2) main_v1
  let main_v40 : IVec S2x16x8x1x1 32 := shapeCast S2x16x8x1x1 main_v39 shapeCasts_S2x16x8x1x1x1_S2x16x8x1x1
  fn_part2 (F := F) main_arg6 main_arg7 main_arg8 main_v1 main_v6 main_v9 main_v12 main_v15 main_v18 main_v27 main_v36 main_v38 main_v40

def fn {F : FTy → Type} [FloatOps F] (main_arg0 : FVec F S2x96x224x224 .f32) (main_arg1 : FVec F S8x16x4 .f32) (main_arg2 : FVec F S4x16x4 .f32) (main_arg3 : FVec F S2x16x4 .f32) (main_arg4 : FVec F S1x16x4 .f32) (main_arg5 : IVec S2x16x98568x3 32) (main_arg6 : IVec S2x49284 32) (main_arg7 : IVec S2x24642 32) (main_arg8 : IVec S2x12321 32) : IVec S2x96x224x224 1 × IVec S8x16x4 1 × IVec S4x16x4 1 × IVec S2x16x4 1 × IVec S1x16x4 1 × IVec S2x16x8x111x111 1 × IVec S2x16x8x111x111 1 × IVec S2x16x8x111x111 1 × IVec S2x16x8x1x1 1 × IVec S2x16x8x1x1 1 × IVec S2x16x8x1x1 1 × IVec S2x4x12321 1 × IVec S2x2x12321 1 × IVec S2x1x12321 1 :=
  let main_v0 : IVec S2x16x8x111x111x3 32 := shapeCast S2x16x8x111x111x3 main_arg5 shapeCasts_S2x16x98568x3_S2x16x8x111x111x3
  let main_v1 : IVec S2x16x8x1x1x3 32 := (extractStridedSlice S2x16x8x1x1x3 ![0, 0, 0, 0, 0, 0] · slices_S2x16x8x111x111x3_S2x16x8x1x1x3_0_0_0_0_0_0) main_v0
  let main_v2 : IVec S2x16x8x111x111 32 := iotaInDim S2x16x8x111x111 32 3
  let main_v3 : IVec S2x16x8x111x111 32 := iotaInDim S2x16x8x111x111 32 4
  let main_v4 : FVec F S2x96x224x224 .f32 := Host.absf main_arg0
  let main_cst : FVec F S_ .f32 := constant S_ .f32 0x7F800000#32
  let main_v5 : FVec F S2x96x224x224 .f32 := broadcastInDim S2x96x224x224 ![] bcast_S_S2x96x224x224 main_cst
  let main_v6 : IVec S2x96x224x224 1 := cmpf .olt main_v4 main_v5
  let main_v7 : FVec F S8x16x4 .f32 := Host.absf main_arg1
  let main_cst_0 : FVec F S_ .f32 := constant S_ .f32 0x7F800000#32
  let main_v8 : FVec F S8x16x4 .f32 := broadcastInDim S8x16x4 ![] bcast_S_S8x16x4 main_cst_0
  let main_v9 : IVec S8x16x4 1 := cmpf .olt main_v7 main_v8
  let main_v10 : FVec F S4x16x4 .f32 := Host.absf main_arg2
  let main_cst_1 : FVec F S_ .f32 := constant S_ .f32 0x7F800000#32
  let main_v11 : FVec F S4x16x4 .f32 := broadcastInDim S4x16x4 ![] bcast_S_S4x16x4 main_cst_1
  let main_v12 : IVec S4x16x4 1 := cmpf .olt main_v10 main_v11
  let main_v13 : FVec F S2x16x4 .f32 := Host.absf main_arg3
  let main_cst_2 : FVec F S_ .f32 := constant S_ .f32 0x7F800000#32
  let main_v14 : FVec F S2x16x4 .f32 := broadcastInDim S2x16x4 ![] bcast_S_S2x16x4 main_cst_2
  let main_v15 : IVec S2x16x4 1 := cmpf .olt main_v13 main_v14
  let main_v16 : FVec F S1x16x4 .f32 := Host.absf main_arg4
  let main_cst_3 : FVec F S_ .f32 := constant S_ .f32 0x7F800000#32
  let main_v17 : FVec F S1x16x4 .f32 := broadcastInDim S1x16x4 ![] bcast_S_S1x16x4 main_cst_3
  let main_v18 : IVec S1x16x4 1 := cmpf .olt main_v16 main_v17
  fn_part1 (F := F) main_arg6 main_arg7 main_arg8 main_v0 main_v1 main_v2 main_v3 main_v6 main_v9 main_v12 main_v15 main_v18
-- ==== Kernel.lean ====
abbrev S2x96x224x224 : Shape := ⟨4, ![2, 96, 224, 224]⟩
abbrev S8x16x4 : Shape := ⟨3, ![8, 16, 4]⟩
abbrev S4x16x4 : Shape := ⟨3, ![4, 16, 4]⟩
abbrev S2x16x4 : Shape := ⟨3, ![2, 16, 4]⟩
abbrev S1x16x4 : Shape := ⟨3, ![1, 16, 4]⟩
abbrev S2x16x98568x3 : Shape := ⟨4, ![2, 16, 98568, 3]⟩
abbrev S2x49284 : Shape := ⟨2, ![2, 49284]⟩
abbrev S2x24642 : Shape := ⟨2, ![2, 24642]⟩
abbrev S2x12321 : Shape := ⟨2, ![2, 12321]⟩
abbrev S43008x224 : Shape := ⟨2, ![43008, 224]⟩
abbrev S2x16x8x12321x3 : Shape := ⟨5, ![2, 16, 8, 12321, 3]⟩
abbrev S2x16x8x1x3 : Shape := ⟨5, ![2, 16, 8, 1, 3]⟩
abbrev S2x16x8x3 : Shape := ⟨4, ![2, 16, 8, 3]⟩
abbrev S2x16x111x111 : Shape := ⟨4, ![2, 16, 111, 111]⟩
abbrev S1x1x111x111 : Shape := ⟨4, ![1, 1, 111, 111]⟩
abbrev S96x224x224 : Shape := ⟨3, ![96, 224, 224]⟩
abbrev S96 : Shape := ⟨1, ![96]⟩
abbrev S8x222x222 : Shape := ⟨3, ![8, 222, 222]⟩
abbrev S1 : Shape := ⟨1, ![1]⟩
abbrev S_ : Shape := ⟨0, ![]⟩
abbrev S1x224x224 : Shape := ⟨3, ![1, 224, 224]⟩
abbrev S224x224 : Shape := ⟨2, ![224, 224]⟩
abbrev S8x1x4 : Shape := ⟨3, ![8, 1, 4]⟩
abbrev S8x4 : Shape := ⟨2, ![8, 4]⟩
abbrev S8 : Shape := ⟨1, ![8]⟩
abbrev S8x1 : Shape := ⟨2, ![8, 1]⟩
abbrev S8x1x1 : Shape := ⟨3, ![8, 1, 1]⟩
abbrev S1x1x1x1 : Shape := ⟨4, ![1, 1, 1, 1]⟩
abbrev S222x224 : Shape := ⟨2, ![222, 224]⟩
abbrev S222x222 : Shape := ⟨2, ![222, 222]⟩
abbrev S1x1x1 : Shape := ⟨3, ![1, 1, 1]⟩
abbrev S1x1 : Shape := ⟨2, ![1, 1]⟩
abbrev S1x222x222 : Shape := ⟨3, ![1, 222, 222]⟩
abbrev S4x2x222x222 : Shape := ⟨4, ![4, 2, 222, 222]⟩
abbrev S4x1x222x222 : Shape := ⟨4, ![4, 1, 222, 222]⟩
abbrev S4x222x222 : Shape := ⟨3, ![4, 222, 222]⟩
abbrev S4x1x4 : Shape := ⟨3, ![4, 1, 4]⟩
abbrev S4x4 : Shape := ⟨2, ![4, 4]⟩
abbrev S4 : Shape := ⟨1, ![4]⟩
abbrev S4x1 : Shape := ⟨2, ![4, 1]⟩
abbrev S4x1x1 : Shape := ⟨3, ![4, 1, 1]⟩
abbrev S2x2x222x222 : Shape := ⟨4, ![2, 2, 222, 222]⟩
abbrev S2x1x222x222 : Shape := ⟨4, ![2, 1, 222, 222]⟩
abbrev S2x222x222 : Shape := ⟨3, ![2, 222, 222]⟩
abbrev S2x1x4 : Shape := ⟨3, ![2, 1, 4]⟩
abbrev S2x4 : Shape := ⟨2, ![2, 4]⟩
abbrev S2 : Shape := ⟨1, ![2]⟩
abbrev S2x1 : Shape := ⟨2, ![2, 1]⟩
abbrev S2x1x1 : Shape := ⟨3, ![2, 1, 1]⟩
abbrev S1x2x222x222 : Shape := ⟨4, ![1, 2, 222, 222]⟩
abbrev S1x1x222x222 : Shape := ⟨4, ![1, 1, 222, 222]⟩
abbrev S1x1x4 : Shape := ⟨3, ![1, 1, 4]⟩
abbrev S1x4 : Shape := ⟨2, ![1, 4]⟩
abbrev S222x111 : Shape := ⟨2, ![222, 111]⟩
abbrev S111x222 : Shape := ⟨2, ![111, 222]⟩
abbrev S111x111 : Shape := ⟨2, ![111, 111]⟩

abbrev nBuf : Space → Nat
  | .hbm => 14
  | .vmem => 8
  | .smem => 1
  | _ => 0

abbrev bufTy : (tb : Table) → Fin (tcTables nBuf tb) → BufTy
  | .hbm, ⟨0, _⟩ => ⟨S2x96x224x224, .f32⟩
  | .hbm, ⟨1, _⟩ => ⟨S8x16x4, .f32⟩
  | .hbm, ⟨2, _⟩ => ⟨S4x16x4, .f32⟩
  | .hbm, ⟨3, _⟩ => ⟨S2x16x4, .f32⟩
  | .hbm, ⟨4, _⟩ => ⟨S1x16x4, .f32⟩
  | .hbm, ⟨5, _⟩ => ⟨S2x16x98568x3, .i32⟩
  | .hbm, ⟨6, _⟩ => ⟨S2x49284, .i32⟩
  | .hbm, ⟨7, _⟩ => ⟨S2x24642, .i32⟩
  | .hbm, ⟨8, _⟩ => ⟨S2x12321, .i32⟩
  | .hbm, ⟨9, _⟩ => ⟨S43008x224, .f32⟩
  | .hbm, ⟨10, _⟩ => ⟨S2x16x8x12321x3, .i32⟩
  | .hbm, ⟨11, _⟩ => ⟨S2x16x8x1x3, .i32⟩
  | .hbm, ⟨12, _⟩ => ⟨S2x16x8x3, .i32⟩
  | .hbm, ⟨13, _⟩ => ⟨S2x16x111x111, .f32⟩
  | .local _ .vmem, ⟨0, _⟩ => ⟨S8x16x4, .f32⟩
  | .local _ .vmem, ⟨1, _⟩ => ⟨S4x16x4, .f32⟩
  | .local _ .vmem, ⟨2, _⟩ => ⟨S2x16x4, .f32⟩
  | .local _ .vmem, ⟨3, _⟩ => ⟨S1x16x4, .f32⟩
  | .local _ .vmem, ⟨4, _⟩ => ⟨S1x1x111x111, .f32⟩
  | .local _ .vmem, ⟨5, _⟩ => ⟨S1x1x111x111, .f32⟩
  | .local _ .vmem, ⟨6, _⟩ => ⟨S96x224x224, .f32⟩
  | .local _ .vmem, ⟨7, _⟩ => ⟨S8x222x222, .f32⟩
  | .local _ .smem, ⟨0, _⟩ => ⟨S2x16x8x3, .i32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTc nBuf bufTy 0 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v0 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_scratch0 : Ref sig .tc := ⟨.vmem, 6, rfl⟩
abbrev cc0_scratch2 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_287 : BitVec 32) : Fin 2 → Nat :=
  let arg0 : BitVec 32 := BitVec.ofNat 32 (i 0).val
  let c96_i32 : BitVec 32 := 96#32
  let v727 : BitVec 32 := Scalar.muli arg0 c96_i32
  let v728 : BitVec 32 := Scalar.addi v727 c0_i32_287
  let c224_i32 : BitVec 32 := 224#32
  let v729 : BitVec 32 := Scalar.muli v728 c224_i32
  let c0_i32_292 : BitVec 32 := 0#32
  ![v729.toNat, 0]
def k0_off2 (i : grid0.Coords) : Fin 3 → Nat :=
  let c0 : Index := 0#32
  let arg1 : BitVec 32 := BitVec.ofNat 32 (i 1).val
  let v3 : Index := Scalar.indexCast arg1
  let c0_1 : Index := 0#32
  ![0, v3.toNat, 0]
def k0_off3 (i : grid0.Coords) : Fin 4 → Nat :=
  let c0_4 : Index := 0#32
  let arg1 : BitVec 32 := BitVec.ofNat 32 (i 1).val
  let v30 : Index := Scalar.indexCast arg1
  let c0_5 : Index := 0#32
  let c0_6 : Index := 0#32
  ![0, v30.toNat, 0, 0]
def k0_off4 (i : grid0.Coords) : Fin 4 → Nat :=
  let c0_7 : Index := 0#32
  let arg1 : BitVec 32 := BitVec.ofNat 32 (i 1).val
  let v32 : Index := Scalar.indexCast arg1
  let c0_8 : Index := 0#32
  let c1 : Index := 1#32
  ![0, v32.toNat, 0, 1]
def k0_off5 (i : grid0.Coords) : Fin 4 → Nat :=
  let c0_9 : Index := 0#32
  let arg1 : BitVec 32 := BitVec.ofNat 32 (i 1).val
  let v34 : Index := Scalar.indexCast arg1
  let c0_10 : Index := 0#32
  let c2 : Index := 2#32
  ![0, v34.toNat, 0, 2]
def k0_off6 (v35 : BitVec 32) : Fin 3 → Nat :=
  let v36 : Index := Scalar.indexCast v35
  let c0_11 : Index := 0#32
  let c0_12 : Index := 0#32
  ![v36.toNat, 0, 0]

def k0_chk1 (v35 : BitVec 32) : Prop :=
  (∀ a, (k0_off6 v35) a + S1x224x224.size a ≤ S96x224x224.size a)
theorem k0_off6_inb : ∀ (v35 : BitVec 32) (k0_hw1 : k0_chk1 v35), ∀ a, (k0_off6 v35) a + S1x224x224.size a ≤ S96x224x224.size a := fun v35 k0_hw1 => k0_hw1

def k0_off7 (i : grid0.Coords) : Fin 4 → Nat :=
  let c1_16 : Index := 1#32
  let arg1 : BitVec 32 := BitVec.ofNat 32 (i 1).val
  let v53 : Index := Scalar.indexCast arg1
  let c0_17 : Index := 0#32
  let c0_18 : Index := 0#32
  ![1, v53.toNat, 0, 0]
def k0_off8 (i : grid0.Coords) : Fin 4 → Nat :=
  let c1_19 : Index := 1#32
  let arg1 : BitVec 32 := BitVec.ofNat 32 (i 1).val
  let v55 : Index := Scalar.indexCast arg1
  let c0_20 : Index := 0#32
  let c1_21 : Index := 1#32
  ![1, v55.toNat, 0, 1]
def k0_off9 (i : grid0.Coords) : Fin 4 → Nat :=
  let c1_22 : Index := 1#32
  let arg1 : BitVec 32 := BitVec.ofNat 32 (i 1).val
  let v57 : Index := Scalar.indexCast arg1
  let c0_23 : Index := 0#32
  let c2_24 : Index := 2#32
  ![1, v57.toNat, 0, 2]
def k0_off10 (v58 : BitVec 32) : Fin 3 → Nat :=
  let v59 : Index := Scalar.indexCast v58
  let c0_25 : Index := 0#32
  let c0_26 : Index := 0#32
  ![v59.toNat, 0, 0]

def k0_chk2 (v58 : BitVec 32) : Prop :=
  (∀ a, (k0_off10 v58) a + S1x224x224.size a ≤ S96x224x224.size a)
theorem k0_off10_inb : ∀ (v58 : BitVec 32) (k0_hw2 : k0_chk2 v58), ∀ a, (k0_off10 v58) a + S1x224x224.size a ≤ S96x224x224.size a := fun v58 k0_hw2 => k0_hw2

def k0_off11 (i : grid0.Coords) : Fin 4 → Nat :=
  let c0_34 : Index := 0#32
  let arg1 : BitVec 32 := BitVec.ofNat 32 (i 1).val
  let v97 : Index := Scalar.indexCast arg1
  let c1_35 : Index := 1#32
  let c0_36 : Index := 0#32
  ![0, v97.toNat, 1, 0]
def k0_off12 (i : grid0.Coords) : Fin 4 → Nat :=
  let c0_37 : Index := 0#32
  let arg1 : BitVec 32 := BitVec.ofNat 32 (i 1).val
  let v99 : Index := Scalar.indexCast arg1
  let c1_38 : Index := 1#32
  let c1_39 : Index := 1#32
  ![0, v99.toNat, 1, 1]
def k0_off13 (i : grid0.Coords) : Fin 4 → Nat :=
  let c0_40 : Index := 0#32
  let arg1 : BitVec 32 := BitVec.ofNat 32 (i 1).val
  let v101 : Index := Scalar.indexCast arg1
  let c1_41 : Index := 1#32
  let c2_42 : Index := 2#32
  ![0, v101.toNat, 1, 2]
def k0_off14 (v102 : BitVec 32) : Fin 3 → Nat :=
  let v103 : Index := Scalar.indexCast v102
  let c0_43 : Index := 0#32
  let c0_44 : Index := 0#32
  ![v103.toNat, 0, 0]

def k0_chk3 (v102 : BitVec 32) : Prop :=
  (∀ a, (k0_off14 v102) a + S1x224x224.size a ≤ S96x224x224.size a)
theorem k0_off14_inb : ∀ (v102 : BitVec 32) (k0_hw3 : k0_chk3 v102), ∀ a, (k0_off14 v102) a + S1x224x224.size a ≤ S96x224x224.size a := fun v102 k0_hw3 => k0_hw3

def k0_off15 (i : grid0.Coords) : Fin 4 → Nat :=
  let c1_49 : Index := 1#32
  let arg1 : BitVec 32 := BitVec.ofNat 32 (i 1).val
  let v120 : Index := Scalar.indexCast arg1
  let c1_50 : Index := 1#32
  let c0_51 : Index := 0#32
  ![1, v120.toNat, 1, 0]
def k0_off16 (i : grid0.Coords) : Fin 4 → Nat :=
  let c1_52 : Index := 1#32
  let arg1 : BitVec 32 := BitVec.ofNat 32 (i 1).val
  let v122 : Index := Scalar.indexCast arg1
  let c1_53 : Index := 1#32
  let c1_54 : Index := 1#32
  ![1, v122.toNat, 1, 1]
def k0_off17 (i : grid0.Coords) : Fin 4 → Nat :=
  let c1_55 : Index := 1#32
  let arg1 : BitVec 32 := BitVec.ofNat 32 (i 1).val
  let v124 : Index := Scalar.indexCast arg1
  let c1_56 : Index := 1#32
  let c2_57 : Index := 2#32
  ![1, v124.toNat, 1, 2]
def k0_off18 (v125 : BitVec 32) : Fin 3 → Nat :=
  let v126 : Index := Scalar.indexCast v125
  let c0_58 : Index := 0#32
  let c0_59 : Index := 0#32
  ![v126.toNat, 0, 0]

def k0_chk4 (v125 : BitVec 32) : Prop :=
  (∀ a, (k0_off18 v125) a + S1x224x224.size a ≤ S96x224x224.size a)
theorem k0_off18_inb : ∀ (v125 : BitVec 32) (k0_hw4 : k0_chk4 v125), ∀ a, (k0_off18 v125) a + S1x224x224.size a ≤ S96x224x224.size a := fun v125 k0_hw4 => k0_hw4

def k0_off19 (i : grid0.Coords) : Fin 4 → Nat :=
  let c0_67 : Index := 0#32
  let arg1 : BitVec 32 := BitVec.ofNat 32 (i 1).val
  let v164 : Index := Scalar.indexCast arg1
  let c2_68 : Index := 2#32
  let c0_69 : Index := 0#32
  ![0, v164.toNat, 2, 0]
def k0_off20 (i : grid0.Coords) : Fin 4 → Nat :=
  let c0_70 : Index := 0#32
  let arg1 : BitVec 32 := BitVec.ofNat 32 (i 1).val
  let v166 : Index := Scalar.indexCast arg1
  let c2_71 : Index := 2#32
  let c1_72 : Index := 1#32
  ![0, v166.toNat, 2, 1]
def k0_off21 (i : grid0.Coords) : Fin 4 → Nat :=
  let c0_73 : Index := 0#32
  let arg1 : BitVec 32 := BitVec.ofNat 32 (i 1).val
  let v168 : Index := Scalar.indexCast arg1
  let c2_74 : Index := 2#32
  let c2_75 : Index := 2#32
  ![0, v168.toNat, 2, 2]
def k0_off22 (v169 : BitVec 32) : Fin 3 → Nat :=
  let v170 : Index := Scalar.indexCast v169
  let c0_76 : Index := 0#32
  let c0_77 : Index := 0#32
  ![v170.toNat, 0, 0]

def k0_chk5 (v169 : BitVec 32) : Prop :=
  (∀ a, (k0_off22 v169) a + S1x224x224.size a ≤ S96x224x224.size a)
theorem k0_off22_inb : ∀ (v169 : BitVec 32) (k0_hw5 : k0_chk5 v169), ∀ a, (k0_off22 v169) a + S1x224x224.size a ≤ S96x224x224.size a := fun v169 k0_hw5 => k0_hw5

def k0_off23 (i : grid0.Coords) : Fin 4 → Nat :=
  let c1_82 : Index := 1#32
  let arg1 : BitVec 32 := BitVec.ofNat 32 (i 1).val
  let v187 : Index := Scalar.indexCast arg1
  let c2_83 : Index := 2#32
  let c0_84 : Index := 0#32
  ![1, v187.toNat, 2, 0]
def k0_off24 (i : grid0.Coords) : Fin 4 → Nat :=
  let c1_85 : Index := 1#32
  let arg1 : BitVec 32 := BitVec.ofNat 32 (i 1).val
  let v189 : Index := Scalar.indexCast arg1
  let c2_86 : Index := 2#32
  let c1_87 : Index := 1#32
  ![1, v189.toNat, 2, 1]
def k0_off25 (i : grid0.Coords) : Fin 4 → Nat :=
  let c1_88 : Index := 1#32
  let arg1 : BitVec 32 := BitVec.ofNat 32 (i 1).val
  let v191 : Index := Scalar.indexCast arg1
  let c2_89 : Index := 2#32
  let c2_90 : Index := 2#32
  ![1, v191.toNat, 2, 2]
def k0_off26 (v192 : BitVec 32) : Fin 3 → Nat :=
  let v193 : Index := Scalar.indexCast v192
  let c0_91 : Index := 0#32
  let c0_92 : Index := 0#32
  ![v193.toNat, 0, 0]

def k0_chk6 (v192 : BitVec 32) : Prop :=
  (∀ a, (k0_off26 v192) a + S1x224x224.size a ≤ S96x224x224.size a)
theorem k0_off26_inb : ∀ (v192 : BitVec 32) (k0_hw6 : k0_chk6 v192), ∀ a, (k0_off26 v192) a + S1x224x224.size a ≤ S96x224x224.size a := fun v192 k0_hw6 => k0_hw6

def k0_off27 (i : grid0.Coords) : Fin 4 → Nat :=
  let c0_100 : Index := 0#32
  let arg1 : BitVec 32 := BitVec.ofNat 32 (i 1).val
  let v231 : Index := Scalar.indexCast arg1
  let c3 : Index := 3#32
  let c0_101 : Index := 0#32
  ![0, v231.toNat, 3, 0]
def k0_off28 (i : grid0.Coords) : Fin 4 → Nat :=
  let c0_102 : Index := 0#32
  let arg1 : BitVec 32 := BitVec.ofNat 32 (i 1).val
  let v233 : Index := Scalar.indexCast arg1
  let c3_103 : Index := 3#32
  let c1_104 : Index := 1#32
  ![0, v233.toNat, 3, 1]
def k0_off29 (i : grid0.Coords) : Fin 4 → Nat :=
  let c0_105 : Index := 0#32
  let arg1 : BitVec 32 := BitVec.ofNat 32 (i 1).val
  let v235 : Index := Scalar.indexCast arg1
  let c3_106 : Index := 3#32
  let c2_107 : Index := 2#32
  ![0, v235.toNat, 3, 2]
def k0_off30 (v236 : BitVec 32) : Fin 3 → Nat :=
  let v237 : Index := Scalar.indexCast v236
  let c0_108 : Index := 0#32
  let c0_109 : Index := 0#32
  ![v237.toNat, 0, 0]

def k0_chk7 (v236 : BitVec 32) : Prop :=
  (∀ a, (k0_off30 v236) a + S1x224x224.size a ≤ S96x224x224.size a)
theorem k0_off30_inb : ∀ (v236 : BitVec 32) (k0_hw7 : k0_chk7 v236), ∀ a, (k0_off30 v236) a + S1x224x224.size a ≤ S96x224x224.size a := fun v236 k0_hw7 => k0_hw7

def k0_off31 (i : grid0.Coords) : Fin 4 → Nat :=
  let c1_114 : Index := 1#32
  let arg1 : BitVec 32 := BitVec.ofNat 32 (i 1).val
  let v254 : Index := Scalar.indexCast arg1
  let c3_115 : Index := 3#32
  let c0_116 : Index := 0#32
  ![1, v254.toNat, 3, 0]
def k0_off32 (i : grid0.Coords) : Fin 4 → Nat :=
  let c1_117 : Index := 1#32
  let arg1 : BitVec 32 := BitVec.ofNat 32 (i 1).val
  let v256 : Index := Scalar.indexCast arg1
  let c3_118 : Index := 3#32
  let c1_119 : Index := 1#32
  ![1, v256.toNat, 3, 1]
def k0_off33 (i : grid0.Coords) : Fin 4 → Nat :=
  let c1_120 : Index := 1#32
  let arg1 : BitVec 32 := BitVec.ofNat 32 (i 1).val
  let v258 : Index := Scalar.indexCast arg1
  let c3_121 : Index := 3#32
  let c2_122 : Index := 2#32
  ![1, v258.toNat, 3, 2]
def k0_off34 (v259 : BitVec 32) : Fin 3 → Nat :=
  let v260 : Index := Scalar.indexCast v259
  let c0_123 : Index := 0#32
  let c0_124 : Index := 0#32
  ![v260.toNat, 0, 0]

def k0_chk8 (v259 : BitVec 32) : Prop :=
  (∀ a, (k0_off34 v259) a + S1x224x224.size a ≤ S96x224x224.size a)
theorem k0_off34_inb : ∀ (v259 : BitVec 32) (k0_hw8 : k0_chk8 v259), ∀ a, (k0_off34 v259) a + S1x224x224.size a ≤ S96x224x224.size a := fun v259 k0_hw8 => k0_hw8

def k0_off35 (i : grid0.Coords) : Fin 4 → Nat :=
  let c0_132 : Index := 0#32
  let arg1 : BitVec 32 := BitVec.ofNat 32 (i 1).val
  let v298 : Index := Scalar.indexCast arg1
  let c4 : Index := 4#32
  let c0_133 : Index := 0#32
  ![0, v298.toNat, 4, 0]
def k0_off36 (i : grid0.Coords) : Fin 4 → Nat :=
  let c0_134 : Index := 0#32
  let arg1 : BitVec 32 := BitVec.ofNat 32 (i 1).val
  let v300 : Index := Scalar.indexCast arg1
  let c4_135 : Index := 4#32
  let c1_136 : Index := 1#32
  ![0, v300.toNat, 4, 1]
def k0_off37 (i : grid0.Coords) : Fin 4 → Nat :=
  let c0_137 : Index := 0#32
  let arg1 : BitVec 32 := BitVec.ofNat 32 (i 1).val
  let v302 : Index := Scalar.indexCast arg1
  let c4_138 : Index := 4#32
  let c2_139 : Index := 2#32
  ![0, v302.toNat, 4, 2]
def k0_off38 (v303 : BitVec 32) : Fin 3 → Nat :=
  let v304 : Index := Scalar.indexCast v303
  let c0_140 : Index := 0#32
  let c0_141 : Index := 0#32
  ![v304.toNat, 0, 0]

def k0_chk9 (v303 : BitVec 32) : Prop :=
  (∀ a, (k0_off38 v303) a + S1x224x224.size a ≤ S96x224x224.size a)
theorem k0_off38_inb : ∀ (v303 : BitVec 32) (k0_hw9 : k0_chk9 v303), ∀ a, (k0_off38 v303) a + S1x224x224.size a ≤ S96x224x224.size a := fun v303 k0_hw9 => k0_hw9

def k0_off39 (i : grid0.Coords) : Fin 4 → Nat :=
  let c1_146 : Index := 1#32
  let arg1 : BitVec 32 := BitVec.ofNat 32 (i 1).val
  let v321 : Index := Scalar.indexCast arg1
  let c4_147 : Index := 4#32
  let c0_148 : Index := 0#32
  ![1, v321.toNat, 4, 0]
def k0_off40 (i : grid0.Coords) : Fin 4 → Nat :=
  let c1_149 : Index := 1#32
  let arg1 : BitVec 32 := BitVec.ofNat 32 (i 1).val
  let v323 : Index := Scalar.indexCast arg1
  let c4_150 : Index := 4#32
  let c1_151 : Index := 1#32
  ![1, v323.toNat, 4, 1]
def k0_off41 (i : grid0.Coords) : Fin 4 → Nat :=
  let c1_152 : Index := 1#32
  let arg1 : BitVec 32 := BitVec.ofNat 32 (i 1).val
  let v325 : Index := Scalar.indexCast arg1
  let c4_153 : Index := 4#32
  let c2_154 : Index := 2#32
  ![1, v325.toNat, 4, 2]
def k0_off42 (v326 : BitVec 32) : Fin 3 → Nat :=
  let v327 : Index := Scalar.indexCast v326
  let c0_155 : Index := 0#32
  let c0_156 : Index := 0#32
  ![v327.toNat, 0, 0]

def k0_chk10 (v326 : BitVec 32) : Prop :=
  (∀ a, (k0_off42 v326) a + S1x224x224.size a ≤ S96x224x224.size a)
theorem k0_off42_inb : ∀ (v326 : BitVec 32) (k0_hw10 : k0_chk10 v326), ∀ a, (k0_off42 v326) a + S1x224x224.size a ≤ S96x224x224.size a := fun v326 k0_hw10 => k0_hw10

def k0_off43 (i : grid0.Coords) : Fin 4 → Nat :=
  let c0_164 : Index := 0#32
  let arg1 : BitVec 32 := BitVec.ofNat 32 (i 1).val
  let v365 : Index := Scalar.indexCast arg1
  let c5 : Index := 5#32
  let c0_165 : Index := 0#32
  ![0, v365.toNat, 5, 0]
def k0_off44 (i : grid0.Coords) : Fin 4 → Nat :=
  let c0_166 : Index := 0#32
  let arg1 : BitVec 32 := BitVec.ofNat 32 (i 1).val
  let v367 : Index := Scalar.indexCast arg1
  let c5_167 : Index := 5#32
  let c1_168 : Index := 1#32
  ![0, v367.toNat, 5, 1]
def k0_off45 (i : grid0.Coords) : Fin 4 → Nat :=
  let c0_169 : Index := 0#32
  let arg1 : BitVec 32 := BitVec.ofNat 32 (i 1).val
  let v369 : Index := Scalar.indexCast arg1
  let c5_170 : Index := 5#32
  let c2_171 : Index := 2#32
  ![0, v369.toNat, 5, 2]
def k0_off46 (v370 : BitVec 32) : Fin 3 → Nat :=
  let v371 : Index := Scalar.indexCast v370
  let c0_172 : Index := 0#32
  let c0_173 : Index := 0#32
  ![v371.toNat, 0, 0]

def k0_chk11 (v370 : BitVec 32) : Prop :=
  (∀ a, (k0_off46 v370) a + S1x224x224.size a ≤ S96x224x224.size a)
theorem k0_off46_inb : ∀ (v370 : BitVec 32) (k0_hw11 : k0_chk11 v370), ∀ a, (k0_off46 v370) a + S1x224x224.size a ≤ S96x224x224.size a := fun v370 k0_hw11 => k0_hw11

def k0_off47 (i : grid0.Coords) : Fin 4 → Nat :=
  let c1_178 : Index := 1#32
  let arg1 : BitVec 32 := BitVec.ofNat 32 (i 1).val
  let v388 : Index := Scalar.indexCast arg1
  let c5_179 : Index := 5#32
  let c0_180 : Index := 0#32
  ![1, v388.toNat, 5, 0]
def k0_off48 (i : grid0.Coords) : Fin 4 → Nat :=
  let c1_181 : Index := 1#32
  let arg1 : BitVec 32 := BitVec.ofNat 32 (i 1).val
  let v390 : Index := Scalar.indexCast arg1
  let c5_182 : Index := 5#32
  let c1_183 : Index := 1#32
  ![1, v390.toNat, 5, 1]
def k0_off49 (i : grid0.Coords) : Fin 4 → Nat :=
  let c1_184 : Index := 1#32
  let arg1 : BitVec 32 := BitVec.ofNat 32 (i 1).val
  let v392 : Index := Scalar.indexCast arg1
  let c5_185 : Index := 5#32
  let c2_186 : Index := 2#32
  ![1, v392.toNat, 5, 2]
def k0_off50 (v393 : BitVec 32) : Fin 3 → Nat :=
  let v394 : Index := Scalar.indexCast v393
  let c0_187 : Index := 0#32
  let c0_188 : Index := 0#32
  ![v394.toNat, 0, 0]

def k0_chk12 (v393 : BitVec 32) : Prop :=
  (∀ a, (k0_off50 v393) a + S1x224x224.size a ≤ S96x224x224.size a)
theorem k0_off50_inb : ∀ (v393 : BitVec 32) (k0_hw12 : k0_chk12 v393), ∀ a, (k0_off50 v393) a + S1x224x224.size a ≤ S96x224x224.size a := fun v393 k0_hw12 => k0_hw12

def k0_off51 (i : grid0.Coords) : Fin 4 → Nat :=
  let c0_196 : Index := 0#32
  let arg1 : BitVec 32 := BitVec.ofNat 32 (i 1).val
  let v432 : Index := Scalar.indexCast arg1
  let c6 : Index := 6#32
  let c0_197 : Index := 0#32
  ![0, v432.toNat, 6, 0]
def k0_off52 (i : grid0.Coords) : Fin 4 → Nat :=
  let c0_198 : Index := 0#32
  let arg1 : BitVec 32 := BitVec.ofNat 32 (i 1).val
  let v434 : Index := Scalar.indexCast arg1
  let c6_199 : Index := 6#32
  let c1_200 : Index := 1#32
  ![0, v434.toNat, 6, 1]
def k0_off53 (i : grid0.Coords) : Fin 4 → Nat :=
  let c0_201 : Index := 0#32
  let arg1 : BitVec 32 := BitVec.ofNat 32 (i 1).val
  let v436 : Index := Scalar.indexCast arg1
  let c6_202 : Index := 6#32
  let c2_203 : Index := 2#32
  ![0, v436.toNat, 6, 2]
def k0_off54 (v437 : BitVec 32) : Fin 3 → Nat :=
  let v438 : Index := Scalar.indexCast v437
  let c0_204 : Index := 0#32
  let c0_205 : Index := 0#32
  ![v438.toNat, 0, 0]

def k0_chk13 (v437 : BitVec 32) : Prop :=
  (∀ a, (k0_off54 v437) a + S1x224x224.size a ≤ S96x224x224.size a)
theorem k0_off54_inb : ∀ (v437 : BitVec 32) (k0_hw13 : k0_chk13 v437), ∀ a, (k0_off54 v437) a + S1x224x224.size a ≤ S96x224x224.size a := fun v437 k0_hw13 => k0_hw13

def k0_off55 (i : grid0.Coords) : Fin 4 → Nat :=
  let c1_210 : Index := 1#32
  let arg1 : BitVec 32 := BitVec.ofNat 32 (i 1).val
  let v455 : Index := Scalar.indexCast arg1
  let c6_211 : Index := 6#32
  let c0_212 : Index := 0#32
  ![1, v455.toNat, 6, 0]
def k0_off56 (i : grid0.Coords) : Fin 4 → Nat :=
  let c1_213 : Index := 1#32
  let arg1 : BitVec 32 := BitVec.ofNat 32 (i 1).val
  let v457 : Index := Scalar.indexCast arg1
  let c6_214 : Index := 6#32
  let c1_215 : Index := 1#32
  ![1, v457.toNat, 6, 1]
def k0_off57 (i : grid0.Coords) : Fin 4 → Nat :=
  let c1_216 : Index := 1#32
  let arg1 : BitVec 32 := BitVec.ofNat 32 (i 1).val
  let v459 : Index := Scalar.indexCast arg1
  let c6_217 : Index := 6#32
  let c2_218 : Index := 2#32
  ![1, v459.toNat, 6, 2]
def k0_off58 (v460 : BitVec 32) : Fin 3 → Nat :=
  let v461 : Index := Scalar.indexCast v460
  let c0_219 : Index := 0#32
  let c0_220 : Index := 0#32
  ![v461.toNat, 0, 0]

def k0_chk14 (v460 : BitVec 32) : Prop :=
  (∀ a, (k0_off58 v460) a + S1x224x224.size a ≤ S96x224x224.size a)
theorem k0_off58_inb : ∀ (v460 : BitVec 32) (k0_hw14 : k0_chk14 v460), ∀ a, (k0_off58 v460) a + S1x224x224.size a ≤ S96x224x224.size a := fun v460 k0_hw14 => k0_hw14

def k0_off59 (i : grid0.Coords) : Fin 4 → Nat :=
  let c0_228 : Index := 0#32
  let arg1 : BitVec 32 := BitVec.ofNat 32 (i 1).val
  let v499 : Index := Scalar.indexCast arg1
  let c7 : Index := 7#32
  let c0_229 : Index := 0#32
  ![0, v499.toNat, 7, 0]
def k0_off60 (i : grid0.Coords) : Fin 4 → Nat :=
  let c0_230 : Index := 0#32
  let arg1 : BitVec 32 := BitVec.ofNat 32 (i 1).val
  let v501 : Index := Scalar.indexCast arg1
  let c7_231 : Index := 7#32
  let c1_232 : Index := 1#32
  ![0, v501.toNat, 7, 1]
def k0_off61 (i : grid0.Coords) : Fin 4 → Nat :=
  let c0_233 : Index := 0#32
  let arg1 : BitVec 32 := BitVec.ofNat 32 (i 1).val
  let v503 : Index := Scalar.indexCast arg1
  let c7_234 : Index := 7#32
  let c2_235 : Index := 2#32
  ![0, v503.toNat, 7, 2]
def k0_off62 (v504 : BitVec 32) : Fin 3 → Nat :=
  let v505 : Index := Scalar.indexCast v504
  let c0_236 : Index := 0#32
  let c0_237 : Index := 0#32
  ![v505.toNat, 0, 0]

def k0_chk15 (v504 : BitVec 32) : Prop :=
  (∀ a, (k0_off62 v504) a + S1x224x224.size a ≤ S96x224x224.size a)
theorem k0_off62_inb : ∀ (v504 : BitVec 32) (k0_hw15 : k0_chk15 v504), ∀ a, (k0_off62 v504) a + S1x224x224.size a ≤ S96x224x224.size a := fun v504 k0_hw15 => k0_hw15

def k0_off63 (i : grid0.Coords) : Fin 4 → Nat :=
  let c1_242 : Index := 1#32
  let arg1 : BitVec 32 := BitVec.ofNat 32 (i 1).val
  let v522 : Index := Scalar.indexCast arg1
  let c7_243 : Index := 7#32
  let c0_244 : Index := 0#32
  ![1, v522.toNat, 7, 0]
def k0_off64 (i : grid0.Coords) : Fin 4 → Nat :=
  let c1_245 : Index := 1#32
  let arg1 : BitVec 32 := BitVec.ofNat 32 (i 1).val
  let v524 : Index := Scalar.indexCast arg1
  let c7_246 : Index := 7#32
  let c1_247 : Index := 1#32
  ![1, v524.toNat, 7, 1]
def k0_off65 (i : grid0.Coords) : Fin 4 → Nat :=
  let c1_248 : Index := 1#32
  let arg1 : BitVec 32 := BitVec.ofNat 32 (i 1).val
  let v526 : Index := Scalar.indexCast arg1
  let c7_249 : Index := 7#32
  let c2_250 : Index := 2#32
  ![1, v526.toNat, 7, 2]
def k0_off66 (v527 : BitVec 32) : Fin 3 → Nat :=
  let v528 : Index := Scalar.indexCast v527
  let c0_251 : Index := 0#32
  let c0_252 : Index := 0#32
  ![v528.toNat, 0, 0]

def k0_chk16 (v527 : BitVec 32) : Prop :=
  (∀ a, (k0_off66 v527) a + S1x224x224.size a ≤ S96x224x224.size a)
theorem k0_off66_inb : ∀ (v527 : BitVec 32) (k0_hw16 : k0_chk16 v527), ∀ a, (k0_off66 v527) a + S1x224x224.size a ≤ S96x224x224.size a := fun v527 k0_hw16 => k0_hw16

def k0_off67 (i : grid0.Coords) : Fin 3 → Nat :=
  let c0_263 : Index := 0#32
  let arg1 : BitVec 32 := BitVec.ofNat 32 (i 1).val
  let v572 : Index := Scalar.indexCast arg1
  let c0_264 : Index := 0#32
  ![0, v572.toNat, 0]
def k0_off68 (i : grid0.Coords) : Fin 3 → Nat :=
  let c0_268 : Index := 0#32
  let arg1 : BitVec 32 := BitVec.ofNat 32 (i 1).val
  let v614 : Index := Scalar.indexCast arg1
  let c0_269 : Index := 0#32
  ![0, v614.toNat, 0]
def k0_off69 (i : grid0.Coords) : Fin 3 → Nat :=
  let c0_273 : Index := 0#32
  let arg1 : BitVec 32 := BitVec.ofNat 32 (i 1).val
  let v656 : Index := Scalar.indexCast arg1
  let c0_274 : Index := 0#32
  ![0, v656.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x16x8x3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x16x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x16x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x111x111 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x96x224x224 : Shape := ⟨4, ![2, 96, 224, 224]⟩
abbrev S8x16x4 : Shape := ⟨3, ![8, 16, 4]⟩
abbrev S4x16x4 : Shape := ⟨3, ![4, 16, 4]⟩
abbrev S2x16x4 : Shape := ⟨3, ![2, 16, 4]⟩
abbrev S1x16x4 : Shape := ⟨3, ![1, 16, 4]⟩
abbrev S2x16x98568x3 : Shape := ⟨4, ![2, 16, 98568, 3]⟩
abbrev S2x49284 : Shape := ⟨2, ![2, 49284]⟩
abbrev S2x24642 : Shape := ⟨2, ![2, 24642]⟩
abbrev S2x12321 : Shape := ⟨2, ![2, 12321]⟩
abbrev S2x16x98568x1 : Shape := ⟨4, ![2, 16, 98568, 1]⟩
abbrev S2x16x98568 : Shape := ⟨3, ![2, 16, 98568]⟩
abbrev S_ : Shape := ⟨0, ![]⟩
abbrev S2x2x16x98568 : Shape := ⟨4, ![2, 2, 16, 98568]⟩
abbrev S2x2x16x8x12321 : Shape := ⟨5, ![2, 2, 16, 8, 12321]⟩
abbrev S2x1x16x8x12321 : Shape := ⟨5, ![2, 1, 16, 8, 12321]⟩
abbrev S2x16x8x12321 : Shape := ⟨4, ![2, 16, 8, 12321]⟩
abbrev S8x16 : Shape := ⟨2, ![8, 16]⟩
abbrev S8x16x1 : Shape := ⟨3, ![8, 16, 1]⟩
abbrev S16x8x4 : Shape := ⟨3, ![16, 8, 4]⟩
abbrev S16x8x1 : Shape := ⟨3, ![16, 8, 1]⟩
abbrev S16x8 : Shape := ⟨2, ![16, 8]⟩
abbrev S1x16x8x1 : Shape := ⟨4, ![1, 16, 8, 1]⟩
abbrev S2x49284x1 : Shape := ⟨3, ![2, 49284, 1]⟩
abbrev S2x16x2x49284 : Shape := ⟨4, ![2, 16, 2, 49284]⟩
abbrev S2x16x1x49284 : Shape := ⟨4, ![2, 16, 1, 49284]⟩
abbrev S2x16x49284 : Shape := ⟨3, ![2, 16, 49284]⟩
abbrev S2x16x4x12321 : Shape := ⟨4, ![2, 16, 4, 12321]⟩
abbrev S4x16 : Shape := ⟨2, ![4, 16]⟩
abbrev S4x16x1 : Shape := ⟨3, ![4, 16, 1]⟩
abbrev S16x4x4 : Shape := ⟨3, ![16, 4, 4]⟩
abbrev S16x4x1 : Shape := ⟨3, ![16, 4, 1]⟩
abbrev S16x4 : Shape := ⟨2, ![16, 4]⟩
abbrev S1x16x4x1 : Shape := ⟨4, ![1, 16, 4, 1]⟩
abbrev S2x24642x1 : Shape := ⟨3, ![2, 24642, 1]⟩
abbrev S2x16x2x24642 : Shape := ⟨4, ![2, 16, 2, 24642]⟩
abbrev S2x16x1x24642 : Shape := ⟨4, ![2, 16, 1, 24642]⟩
abbrev S2x16x24642 : Shape := ⟨3, ![2, 16, 24642]⟩
abbrev S2x16x2x12321 : Shape := ⟨4, ![2, 16, 2, 12321]⟩
abbrev S2x16 : Shape := ⟨2, ![2, 16]⟩
abbrev S2x16x1 : Shape := ⟨3, ![2, 16, 1]⟩
abbrev S16x2x4 : Shape := ⟨3, ![16, 2, 4]⟩
abbrev S16x2x1 : Shape := ⟨3, ![16, 2, 1]⟩
abbrev S16x2 : Shape := ⟨2, ![16, 2]⟩
abbrev S1x16x2x1 : Shape := ⟨4, ![1, 16, 2, 1]⟩
abbrev S2x12321x1 : Shape := ⟨3, ![2, 12321, 1]⟩
abbrev S2x16x1x12321 : Shape := ⟨4, ![2, 16, 1, 12321]⟩
abbrev S2x16x12321 : Shape := ⟨3, ![2, 16, 12321]⟩
abbrev S1x16 : Shape := ⟨2, ![1, 16]⟩
abbrev S1x16x1 : Shape := ⟨3, ![1, 16, 1]⟩
abbrev S16x1x4 : Shape := ⟨3, ![16, 1, 4]⟩
abbrev S16x1x1 : Shape := ⟨3, ![16, 1, 1]⟩
abbrev S16x1 : Shape := ⟨2, ![16, 1]⟩
abbrev S1x16x1x1 : Shape := ⟨4, ![1, 16, 1, 1]⟩
abbrev S2x16x111x111 : Shape := ⟨4, ![2, 16, 111, 111]⟩

abbrev nBuf : Space → Nat
  | .hbm => 324
  | .vmem => 0
  | .smem => 0
  | _ => 0

abbrev hbmTy0_0 (i : Nat) : BufTy := match i % 128 with
  | 0 => ⟨S2x96x224x224, .f32⟩
  | 1 => ⟨S8x16x4, .f32⟩
  | 2 => ⟨S4x16x4, .f32⟩
  | 3 => ⟨S2x16x4, .f32⟩
  | 4 => ⟨S1x16x4, .f32⟩
  | 5 => ⟨S2x16x98568x3, .i32⟩
  | 6 => ⟨S2x49284, .i32⟩
  | 7 => ⟨S2x24642, .i32⟩
  | 8 => ⟨S2x12321, .i32⟩
  | 9 => ⟨S2x16x98568x1, .i32⟩
  | 10 => ⟨S2x16x98568, .i32⟩
  | 11 => ⟨S2x16x98568x1, .i32⟩
  | 12 => ⟨S2x16x98568, .i32⟩
  | 13 => ⟨S2x16x98568x1, .i32⟩
  | 14 => ⟨S2x16x98568, .i32⟩
  | 15 => ⟨S_, .i32⟩
  | 16 => ⟨S2x16x98568, .i32⟩
  | 17 => ⟨S2x16x98568, .i1⟩
  | 18 => ⟨S_, .i32⟩
  | 19 => ⟨S2x16x98568, .i32⟩
  | 20 => ⟨S2x16x98568, .i32⟩
  | 21 => ⟨S2x16x98568, .i32⟩
  | 22 => ⟨S_, .i32⟩
  | 23 => ⟨S2x16x98568, .i32⟩
  | 24 => ⟨S2x16x98568, .i1⟩
  | 25 => ⟨S_, .i32⟩
  | 26 => ⟨S2x16x98568, .i32⟩
  | 27 => ⟨S2x16x98568, .i32⟩
  | 28 => ⟨S2x16x98568, .i32⟩
  | 29 => ⟨S_, .i32⟩
  | 30 => ⟨S2x16x98568, .i32⟩
  | 31 => ⟨S2x16x98568, .i1⟩
  | 32 => ⟨S_, .i32⟩
  | 33 => ⟨S2x16x98568, .i32⟩
  | 34 => ⟨S2x16x98568, .i32⟩
  | 35 => ⟨S2x16x98568, .i32⟩
  | 36 => ⟨S2x16x98568x1, .i32⟩
  | 37 => ⟨S2x16x98568x1, .i32⟩
  | 38 => ⟨S2x16x98568x1, .i32⟩
  | 39 => ⟨S2x16x98568x3, .i32⟩
  | 40 => ⟨S2x2x16x98568, .f32⟩
  | 41 => ⟨S2x2x16x8x12321, .f32⟩
  | 42 => ⟨S2x1x16x8x12321, .f32⟩
  | 43 => ⟨S2x16x8x12321, .f32⟩
  | 44 => ⟨S2x1x16x8x12321, .f32⟩
  | 45 => ⟨S2x16x8x12321, .f32⟩
  | 46 => ⟨S_, .f32⟩
  | 47 => ⟨S8x16x4, .f32⟩
  | 48 => ⟨S8x16x4, .f32⟩
  | 49 => ⟨S_, .f32⟩
  | 50 => ⟨S8x16, .f32⟩
  | 51 => ⟨S_, .f32⟩
  | 52 => ⟨S8x16, .f32⟩
  | 53 => ⟨S8x16, .f32⟩
  | 54 => ⟨S8x16x1, .f32⟩
  | 55 => ⟨S8x16x4, .f32⟩
  | 56 => ⟨S8x16x4, .f32⟩
  | 57 => ⟨S8x16x4, .f32⟩
  | 58 => ⟨S_, .f32⟩
  | 59 => ⟨S8x16, .f32⟩
  | 60 => ⟨S8x16x1, .f32⟩
  | 61 => ⟨S8x16x4, .f32⟩
  | 62 => ⟨S8x16x4, .f32⟩
  | 63 => ⟨S16x8x4, .f32⟩
  | 64 => ⟨S16x8x1, .f32⟩
  | 65 => ⟨S16x8, .f32⟩
  | 66 => ⟨S1x16x8x1, .f32⟩
  | 67 => ⟨S16x8x1, .f32⟩
  | 68 => ⟨S16x8, .f32⟩
  | 69 => ⟨S1x16x8x1, .f32⟩
  | 70 => ⟨S16x8x1, .f32⟩
  | 71 => ⟨S16x8, .f32⟩
  | 72 => ⟨S1x16x8x1, .f32⟩
  | 73 => ⟨S16x8x1, .f32⟩
  | 74 => ⟨S16x8, .f32⟩
  | 75 => ⟨S1x16x8x1, .f32⟩
  | 76 => ⟨S_, .f32⟩
  | 77 => ⟨S2x16x8x12321, .f32⟩
  | 78 => ⟨S2x16x8x12321, .f32⟩
  | 79 => ⟨S2x16x8x12321, .f32⟩
  | 80 => ⟨S2x16x8x12321, .f32⟩
  | 81 => ⟨S_, .f32⟩
  | 82 => ⟨S2x16x8x12321, .f32⟩
  | 83 => ⟨S2x16x8x12321, .f32⟩
  | 84 => ⟨S2x16x8x12321, .f32⟩
  | 85 => ⟨S_, .f32⟩
  | 86 => ⟨S2x16x8x12321, .f32⟩
  | 87 => ⟨S2x16x8x12321, .f32⟩
  | 88 => ⟨S2x16x8x12321, .f32⟩
  | 89 => ⟨S2x16x8x12321, .f32⟩
  | 90 => ⟨S2x16x8x12321, .f32⟩
  | 91 => ⟨S2x16x8x12321, .f32⟩
  | 92 => ⟨S2x16x8x12321, .f32⟩
  | 93 => ⟨S2x16x8x12321, .f32⟩
  | 94 => ⟨S_, .f32⟩
  | 95 => ⟨S2x16x8x12321, .f32⟩
  | 96 => ⟨S2x16x8x12321, .f32⟩
  | 97 => ⟨S2x16x8x12321, .f32⟩
  | 98 => ⟨S2x16x8x12321, .f32⟩
  | 99 => ⟨S2x16x8x12321, .f32⟩
  | 100 => ⟨S2x16x8x12321, .f32⟩
  | 101 => ⟨S2x16x8x12321, .f32⟩
  | 102 => ⟨S2x16x8x12321, .f32⟩
  | 103 => ⟨S2x16x98568, .f32⟩
  | 104 => ⟨S_, .i32⟩
  | 105 => ⟨S2x49284, .i32⟩
  | 106 => ⟨S2x49284, .i1⟩
  | 107 => ⟨S_, .i32⟩
  | 108 => ⟨S2x49284, .i32⟩
  | 109 => ⟨S2x49284, .i32⟩
  | 110 => ⟨S2x49284, .i32⟩
  | 111 => ⟨S2x49284x1, .i32⟩
  | 112 => ⟨S2x16x2x49284, .f32⟩
  | 113 => ⟨S2x16x1x49284, .f32⟩
  | 114 => ⟨S2x16x49284, .f32⟩
  | 115 => ⟨S2x16x4x12321, .f32⟩
  | 116 => ⟨S2x16x1x49284, .f32⟩
  | 117 => ⟨S2x16x49284, .f32⟩
  | 118 => ⟨S2x16x4x12321, .f32⟩
  | 119 => ⟨S_, .f32⟩
  | 120 => ⟨S4x16x4, .f32⟩
  | 121 => ⟨S4x16x4, .f32⟩
  | 122 => ⟨S_, .f32⟩
  | 123 => ⟨S4x16, .f32⟩
  | 124 => ⟨S_, .f32⟩
  | 125 => ⟨S4x16, .f32⟩
  | 126 => ⟨S4x16, .f32⟩
  | 127 => ⟨S4x16x1, .f32⟩
  | _ => ⟨S2x96x224x224, .f32⟩

abbrev hbmTy0_1 (i : Nat) : BufTy := match i % 128 with
  | 0 => ⟨S4x16x4, .f32⟩
  | 1 => ⟨S4x16x4, .f32⟩
  | 2 => ⟨S4x16x4, .f32⟩
  | 3 => ⟨S_, .f32⟩
  | 4 => ⟨S4x16, .f32⟩
  | 5 => ⟨S4x16x1, .f32⟩
  | 6 => ⟨S4x16x4, .f32⟩
  | 7 => ⟨S4x16x4, .f32⟩
  | 8 => ⟨S16x4x4, .f32⟩
  | 9 => ⟨S16x4x1, .f32⟩
  | 10 => ⟨S16x4, .f32⟩
  | 11 => ⟨S1x16x4x1, .f32⟩
  | 12 => ⟨S16x4x1, .f32⟩
  | 13 => ⟨S16x4, .f32⟩
  | 14 => ⟨S1x16x4x1, .f32⟩
  | 15 => ⟨S16x4x1, .f32⟩
  | 16 => ⟨S16x4, .f32⟩
  | 17 => ⟨S1x16x4x1, .f32⟩
  | 18 => ⟨S16x4x1, .f32⟩
  | 19 => ⟨S16x4, .f32⟩
  | 20 => ⟨S1x16x4x1, .f32⟩
  | 21 => ⟨S_, .f32⟩
  | 22 => ⟨S2x16x4x12321, .f32⟩
  | 23 => ⟨S2x16x4x12321, .f32⟩
  | 24 => ⟨S2x16x4x12321, .f32⟩
  | 25 => ⟨S2x16x4x12321, .f32⟩
  | 26 => ⟨S_, .f32⟩
  | 27 => ⟨S2x16x4x12321, .f32⟩
  | 28 => ⟨S2x16x4x12321, .f32⟩
  | 29 => ⟨S2x16x4x12321, .f32⟩
  | 30 => ⟨S_, .f32⟩
  | 31 => ⟨S2x16x4x12321, .f32⟩
  | 32 => ⟨S2x16x4x12321, .f32⟩
  | 33 => ⟨S2x16x4x12321, .f32⟩
  | 34 => ⟨S2x16x4x12321, .f32⟩
  | 35 => ⟨S2x16x4x12321, .f32⟩
  | 36 => ⟨S2x16x4x12321, .f32⟩
  | 37 => ⟨S2x16x4x12321, .f32⟩
  | 38 => ⟨S2x16x4x12321, .f32⟩
  | 39 => ⟨S_, .f32⟩
  | 40 => ⟨S2x16x4x12321, .f32⟩
  | 41 => ⟨S2x16x4x12321, .f32⟩
  | 42 => ⟨S2x16x4x12321, .f32⟩
  | 43 => ⟨S2x16x4x12321, .f32⟩
  | 44 => ⟨S2x16x4x12321, .f32⟩
  | 45 => ⟨S2x16x4x12321, .f32⟩
  | 46 => ⟨S2x16x4x12321, .f32⟩
  | 47 => ⟨S2x16x4x12321, .f32⟩
  | 48 => ⟨S2x16x49284, .f32⟩
  | 49 => ⟨S_, .i32⟩
  | 50 => ⟨S2x24642, .i32⟩
  | 51 => ⟨S2x24642, .i1⟩
  | 52 => ⟨S_, .i32⟩
  | 53 => ⟨S2x24642, .i32⟩
  | 54 => ⟨S2x24642, .i32⟩
  | 55 => ⟨S2x24642, .i32⟩
  | 56 => ⟨S2x24642x1, .i32⟩
  | 57 => ⟨S2x16x2x24642, .f32⟩
  | 58 => ⟨S2x16x1x24642, .f32⟩
  | 59 => ⟨S2x16x24642, .f32⟩
  | 60 => ⟨S2x16x2x12321, .f32⟩
  | 61 => ⟨S2x16x1x24642, .f32⟩
  | 62 => ⟨S2x16x24642, .f32⟩
  | 63 => ⟨S2x16x2x12321, .f32⟩
  | 64 => ⟨S_, .f32⟩
  | 65 => ⟨S2x16x4, .f32⟩
  | 66 => ⟨S2x16x4, .f32⟩
  | 67 => ⟨S_, .f32⟩
  | 68 => ⟨S2x16, .f32⟩
  | 69 => ⟨S_, .f32⟩
  | 70 => ⟨S2x16, .f32⟩
  | 71 => ⟨S2x16, .f32⟩
  | 72 => ⟨S2x16x1, .f32⟩
  | 73 => ⟨S2x16x4, .f32⟩
  | 74 => ⟨S2x16x4, .f32⟩
  | 75 => ⟨S2x16x4, .f32⟩
  | 76 => ⟨S_, .f32⟩
  | 77 => ⟨S2x16, .f32⟩
  | 78 => ⟨S2x16x1, .f32⟩
  | 79 => ⟨S2x16x4, .f32⟩
  | 80 => ⟨S2x16x4, .f32⟩
  | 81 => ⟨S16x2x4, .f32⟩
  | 82 => ⟨S16x2x1, .f32⟩
  | 83 => ⟨S16x2, .f32⟩
  | 84 => ⟨S1x16x2x1, .f32⟩
  | 85 => ⟨S16x2x1, .f32⟩
  | 86 => ⟨S16x2, .f32⟩
  | 87 => ⟨S1x16x2x1, .f32⟩
  | 88 => ⟨S16x2x1, .f32⟩
  | 89 => ⟨S16x2, .f32⟩
  | 90 => ⟨S1x16x2x1, .f32⟩
  | 91 => ⟨S16x2x1, .f32⟩
  | 92 => ⟨S16x2, .f32⟩
  | 93 => ⟨S1x16x2x1, .f32⟩
  | 94 => ⟨S_, .f32⟩
  | 95 => ⟨S2x16x2x12321, .f32⟩
  | 96 => ⟨S2x16x2x12321, .f32⟩
  | 97 => ⟨S2x16x2x12321, .f32⟩
  | 98 => ⟨S2x16x2x12321, .f32⟩
  | 99 => ⟨S_, .f32⟩
  | 100 => ⟨S2x16x2x12321, .f32⟩
  | 101 => ⟨S2x16x2x12321, .f32⟩
  | 102 => ⟨S2x16x2x12321, .f32⟩
  | 103 => ⟨S_, .f32⟩
  | 104 => ⟨S2x16x2x12321, .f32⟩
  | 105 => ⟨S2x16x2x12321, .f32⟩
  | 106 => ⟨S2x16x2x12321, .f32⟩
  | 107 => ⟨S2x16x2x12321, .f32⟩
  | 108 => ⟨S2x16x2x12321, .f32⟩
  | 109 => ⟨S2x16x2x12321, .f32⟩
  | 110 => ⟨S2x16x2x12321, .f32⟩
  | 111 => ⟨S2x16x2x12321, .f32⟩
  | 112 => ⟨S_, .f32⟩
  | 113 => ⟨S2x16x2x12321, .f32⟩
  | 114 => ⟨S2x16x2x12321, .f32⟩
  | 115 => ⟨S2x16x2x12321, .f32⟩
  | 116 => ⟨S2x16x2x12321, .f32⟩
  | 117 => ⟨S2x16x2x12321, .f32⟩
  | 118 => ⟨S2x16x2x12321, .f32⟩
  | 119 => ⟨S2x16x2x12321, .f32⟩
  | 120 => ⟨S2x16x2x12321, .f32⟩
  | 121 => ⟨S2x16x24642, .f32⟩
  | 122 => ⟨S_, .i32⟩
  | 123 => ⟨S2x12321, .i32⟩
  | 124 => ⟨S2x12321, .i1⟩
  | 125 => ⟨S_, .i32⟩
  | 126 => ⟨S2x12321, .i32⟩
  | 127 => ⟨S2x12321, .i32⟩
  | _ => ⟨S2x96x224x224, .f32⟩

abbrev hbmTy0_2 (i : Nat) : BufTy := match i % 128 with
  | 0 => ⟨S2x12321, .i32⟩
  | 1 => ⟨S2x12321x1, .i32⟩
  | 2 => ⟨S2x16x2x12321, .f32⟩
  | 3 => ⟨S2x16x1x12321, .f32⟩
  | 4 => ⟨S2x16x12321, .f32⟩
  | 5 => ⟨S2x16x1x12321, .f32⟩
  | 6 => ⟨S2x16x1x12321, .f32⟩
  | 7 => ⟨S2x16x12321, .f32⟩
  | 8 => ⟨S2x16x1x12321, .f32⟩
  | 9 => ⟨S_, .f32⟩
  | 10 => ⟨S1x16x4, .f32⟩
  | 11 => ⟨S1x16x4, .f32⟩
  | 12 => ⟨S_, .f32⟩
  | 13 => ⟨S1x16, .f32⟩
  | 14 => ⟨S_, .f32⟩
  | 15 => ⟨S1x16, .f32⟩
  | 16 => ⟨S1x16, .f32⟩
  | 17 => ⟨S1x16x1, .f32⟩
  | 18 => ⟨S1x16x4, .f32⟩
  | 19 => ⟨S1x16x4, .f32⟩
  | 20 => ⟨S1x16x4, .f32⟩
  | 21 => ⟨S_, .f32⟩
  | 22 => ⟨S1x16, .f32⟩
  | 23 => ⟨S1x16x1, .f32⟩
  | 24 => ⟨S1x16x4, .f32⟩
  | 25 => ⟨S1x16x4, .f32⟩
  | 26 => ⟨S16x1x4, .f32⟩
  | 27 => ⟨S16x1x1, .f32⟩
  | 28 => ⟨S16x1, .f32⟩
  | 29 => ⟨S1x16x1x1, .f32⟩
  | 30 => ⟨S16x1x1, .f32⟩
  | 31 => ⟨S16x1, .f32⟩
  | 32 => ⟨S1x16x1x1, .f32⟩
  | 33 => ⟨S16x1x1, .f32⟩
  | 34 => ⟨S16x1, .f32⟩
  | 35 => ⟨S1x16x1x1, .f32⟩
  | 36 => ⟨S16x1x1, .f32⟩
  | 37 => ⟨S16x1, .f32⟩
  | 38 => ⟨S1x16x1x1, .f32⟩
  | 39 => ⟨S_, .f32⟩
  | 40 => ⟨S2x16x1x12321, .f32⟩
  | 41 => ⟨S2x16x1x12321, .f32⟩
  | 42 => ⟨S2x16x1x12321, .f32⟩
  | 43 => ⟨S2x16x1x12321, .f32⟩
  | 44 => ⟨S_, .f32⟩
  | 45 => ⟨S2x16x1x12321, .f32⟩
  | 46 => ⟨S2x16x1x12321, .f32⟩
  | 47 => ⟨S2x16x1x12321, .f32⟩
  | 48 => ⟨S_, .f32⟩
  | 49 => ⟨S2x16x1x12321, .f32⟩
  | 50 => ⟨S2x16x1x12321, .f32⟩
  | 51 => ⟨S2x16x1x12321, .f32⟩
  | 52 => ⟨S2x16x1x12321, .f32⟩
  | 53 => ⟨S2x16x1x12321, .f32⟩
  | 54 => ⟨S2x16x1x12321, .f32⟩
  | 55 => ⟨S2x16x1x12321, .f32⟩
  | 56 => ⟨S2x16x1x12321, .f32⟩
  | 57 => ⟨S_, .f32⟩
  | 58 => ⟨S2x16x1x12321, .f32⟩
  | 59 => ⟨S2x16x1x12321, .f32⟩
  | 60 => ⟨S2x16x1x12321, .f32⟩
  | 61 => ⟨S2x16x1x12321, .f32⟩
  | 62 => ⟨S2x16x1x12321, .f32⟩
  | 63 => ⟨S2x16x1x12321, .f32⟩
  | 64 => ⟨S2x16x1x12321, .f32⟩
  | 65 => ⟨S2x16x1x12321, .f32⟩
  | 66 => ⟨S2x16x12321, .f32⟩
  | 67 => ⟨S2x16x111x111, .f32⟩
  | _ => ⟨S2x96x224x224, .f32⟩

abbrev hbmTy (i : Nat) : BufTy := match i / 128 with
  | 0 => hbmTy0_0 i
  | 1 => hbmTy0_1 i
  | 2 => hbmTy0_2 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_12 : Ref sig .tc := ⟨.hbm, 104, rfl⟩
abbrev main_v81 : Ref sig .tc := ⟨.hbm, 105, rfl⟩
abbrev main_v82 : Ref sig .tc := ⟨.hbm, 106, rfl⟩
abbrev main_c_13 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_14 : Ref sig .tc := ⟨.hbm, 119, rfl⟩
abbrev main_v94 : Ref sig .tc := ⟨.hbm, 120, rfl⟩
abbrev main_v95 : Ref sig .tc := ⟨.hbm, 121, rfl⟩
abbrev main_cst_15 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_17 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_18 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_19 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_20 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_21 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_c_22 : Ref sig .tc := ⟨.hbm, 177, rfl⟩
abbrev main_v144 : Ref sig .tc := ⟨.hbm, 178, rfl⟩
abbrev main_v145 : Ref sig .tc := ⟨.hbm, 179, rfl⟩
abbrev main_c_23 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_24 : Ref sig .tc := ⟨.hbm, 192, rfl⟩
abbrev main_v157 : Ref sig .tc := ⟨.hbm, 193, rfl⟩
abbrev main_v158 : Ref sig .tc := ⟨.hbm, 194, rfl⟩
abbrev main_cst_25 : Ref sig .tc := ⟨.hbm, 195, rfl⟩
abbrev main_v159 : Ref sig .tc := ⟨.hbm, 196, rfl⟩
abbrev main_cst_26 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_27 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_28 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_cst_29 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_30 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_cst_31 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_c_32 : Ref sig .tc := ⟨.hbm, 250, rfl⟩
abbrev main_v207 : Ref sig .tc := ⟨.hbm, 251, rfl⟩
abbrev main_v208 : Ref sig .tc := ⟨.hbm, 252, rfl⟩
abbrev main_c_33 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_cst_34 : Ref sig .tc := ⟨.hbm, 265, rfl⟩
abbrev main_v220 : Ref sig .tc := ⟨.hbm, 266, rfl⟩
abbrev main_v221 : Ref sig .tc := ⟨.hbm, 267, rfl⟩
abbrev main_cst_35 : Ref sig .tc := ⟨.hbm, 268, rfl⟩
abbrev main_v222 : Ref sig .tc := ⟨.hbm, 269, rfl⟩
abbrev main_cst_36 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_cst_37 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_cst_38 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_cst_39 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_cst_40 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_cst_41 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩

abbrev nD : Nat := 1
abbrev τ : Topo := Topo.v7x

variable {F : FTy → Type} [FloatOps F]
-- ==== Proof.Stage.lean ====
/- The kernel's copies of one batch's planes: 96 transfers, issued in a row and awaited in a row, each filling one
   plane of the staging buffer from one block of rows of the reshaped input. One step is proved for a plane in
   general; the printed parts are then walked with it. -/
module

public import proofs.«01_k».proof.Proof.Gen.KernelIdeal.Frame
public import proofs.«01_k».proof.Proof.Gen.KernelIdeal.Skeleton
public import Idealize.ShloMosaic.Lib.MixedBatch
public import Idealize.ShloMosaic.Lib.ValueLayout

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## A finite family of holdings in two states -/

/-- A family of holdings of which the first `n` are in the later state. -/
def upTo {N : ℕ} (A B : Fin N → sProp 𝕄) (n : ℕ) : sProp 𝕄 :=
  bigSep Finset.univ fun c : Fin N => if c.val < n then B c else A c

theorem upTo_zero {N : ℕ} (A B : Fin N → sProp 𝕄) : upTo A B 0 = bigSep Finset.univ A :=
  bigSep_congr fun c _ => if_neg (Nat.not_lt_zero _)

theorem upTo_all {N : ℕ} (A B : Fin N → sProp 𝕄) : upTo A B N = bigSep Finset.univ B :=
  bigSep_congr fun c _ => if_pos c.isLt

/-- The others, when the `n`-th is taken out. -/
def others {N : ℕ} (A B : Fin N → sProp 𝕄) (n : Fin N) : sProp 𝕄 :=
  bigSep (Finset.univ.erase n) fun c : Fin N => if c.val < n.val then B c else A c

theorem upTo_cur {N : ℕ} (A B : Fin N → sProp 𝕄) (n : Fin N) : upTo A B n.val = iprop(A n ∗ others A B n) := by
  unfold upTo others
  rw [bigSep_univ_split n, if_neg (Nat.lt_irrefl _)]; rfl

theorem upTo_next {N : ℕ} (A B : Fin N → sProp 𝕄) (n : Fin N) : upTo A B (n.val + 1) = iprop(B n ∗ others A B n) := by
  unfold upTo others
  rw [bigSep_univ_split n, if_pos (Nat.lt_succ_self _)]
  refine congrArg (fun R => iprop(B n ∗ R)) ?_
  refine bigSep_congr fun c hc => ?_
  have hne : c.val ≠ n.val := fun h => (Finset.mem_erase.mp hc).1 (Fin.ext h)
  have : c.val < n.val + 1 ↔ c.val < n.val := by omega
  simp only [this]

/-! ## The transfers' ends -/

abbrev xM : Memref sig .tc .hbm S43008x224 .f32 := Memref.whole main_call0_v0
abbrev sM : Memref sig .tc .vmem S96x224x224 .f32 := Memref.whole cc0_scratch0

theorem inbS (n : Fin 96) : ∀ a, (![n.val] : Fin 1 → ℕ) a + S1.size a ≤ S96.size a := by
  intro a; fin_cases a; show n.val + 1 ≤ 96; omega
theorem inbD (n : Fin 96) : ∀ a, (![n.val, 0, 0] : Fin 3 → ℕ) a + S1x224x224.size a ≤ S96x224x224.size a := by
  intro a; fin_cases a
  · show n.val + 1 ≤ 96; omega
  · show 0 + 224 ≤ 224; omega
  · show 0 + 224 ≤ 224; omega

/-- The semaphore of plane `n`. -/
abbrev semAt (n : Fin 96) : DmaSem sig :=
  ((cc0_scratch1.slice (Rect.unit (s := S96) ![n.val] S1.size (inbS n))).squeeze S_ squeezes_S1_S_).sem
/-- Plane `n` of the staging buffer. -/
abbrev dstAt (n : Fin 96) : Memref sig .tc .vmem S224x224 .f32 :=
  (sM.slice (Rect.unit (s := S96x224x224) ![n.val, 0, 0] S1x224x224.size (inbD n)) (fun _ => rfl)).squeeze S224x224 squeezes_S1x224x224_S224x224
/-- The block of rows it is filled from at grid point `i`. -/
abbrev srcAt (i : grid0.Coords) (h1 : k0_cond1 i = 1#1) (n : Fin 96) : Memref sig .tc .hbm S224x224 .f32 :=
  xM.slice (Rect.unit (s := S43008x224) (k0_off1 i (BitVec.ofNat 32 n.val)) S224x224.size (k0_off1_inb i h1 n)) (fun _ => rfl)

/-- The body's own semaphores. -/
def osem0 : Fin 96 → SemLoc sig := fun n => SemLoc.dma (semAt n)
theorem ownSemFacts0 : Pipeline.OwnSemFacts spec0 osem0 := by decide

abbrev XBuf (c : Dev nD) : Type := Buf (Elt F) ((c : Thread nD τ).loc main_call0_v0)
abbrev SBuf (c : Dev nD) : Type := Buf (Elt F) ((c : Thread nD τ).loc cc0_scratch0)

variable (c : Dev nD) (i : grid0.Coords) (h1 : k0_cond1 i = 1#1) (X : XBuf (F := F) c) (f : SBuf (F := F) c)

/-- The staging buffer with plane `n` filled. -/
abbrev landed (n : Fin 96) : SBuf (F := F) c :=
  (dstAt n).view.write (Elt F) f (ReadAs.same.apply ((srcAt i h1 n).view.read (Elt F) X)) Finset.univ

/-- A transfer not yet issued: its two ends and its semaphore. -/
def idle (n : Fin 96) : sProp 𝕄 :=
  iprop(((srcAt i h1 n).view.loc (c : Thread nD τ) ↦[(srcAt i h1 n).view.set]{fullShare} X)
    ∗ ((dstAt n).view.loc (c : Thread nD τ) ↦[(dstAt n).view.set]{fullShare} f)
    ∗ semVal ((c : Thread nD τ), SemLoc.dma (semAt n)) 0)

/-- A transfer issued. -/
def flying (n : Fin 96) : sProp 𝕄 :=
  Transfers.Flight (countersEmb (U := Pipeline.UD sig nD τ)) (c : Thread nD τ) (SemLoc.dma (semAt n)) () ((dstAt n).view.amount (SemLoc.dma (semAt n)))
    iprop(((dstAt n).view.loc (c : Thread nD τ) ↦[(dstAt n).view.set]{fullShare} landed c i h1 X f n)
      ∗ ((srcAt i h1 n).view.loc (c : Thread nD τ) ↦[(srcAt i h1 n).view.set]{fullShare} X))

/-- A transfer awaited. -/
def done (n : Fin 96) : sProp 𝕄 :=
  iprop(((dstAt n).view.loc (c : Thread nD τ) ↦[(dstAt n).view.set]{fullShare} landed c i h1 X f n)
    ∗ ((srcAt i h1 n).view.loc (c : Thread nD τ) ↦[(srcAt i h1 n).view.set]{fullShare} X)
    ∗ semVal ((c : Thread nD τ), SemLoc.dma (semAt n)) 0)

/-! ## One issue and one wait -/

theorem amount_pos (n : Fin 96) : 0 < (dstAt n).view.amount (SemLoc.dma (semAt n)) := by
  show 0 < (dstAt n).view.dmaCredit
  decide +revert

variable {α : Type} {𝒱 : Variants} {bd : List Unit}

/-- The copies while they are being issued, `n` of them so far; -/
def issuing (n : ℕ) : sProp 𝕄 := iprop(upTo (idle c i h1 X f) (flying c i h1 X f) n ∗ ∃ W, owes (c : Thread nD τ) 0 W)
/-- and while they are being awaited. -/
def awaiting (n : ℕ) : sProp 𝕄 := iprop(upTo (flying c i h1 X f) (done c i h1 X f) n ∗ ∃ W, owes (c : Thread nD τ) 0 W)

theorem issuing_all : issuing c i h1 X f 96 = awaiting c i h1 X f 0 := by
  unfold issuing awaiting; rw [upTo_all, upTo_zero]

theorem issue_step (n : Fin 96) {hsrc : (srcAt i h1 n).view.WordExact} {hdst : (dstAt n).view.WordExact}
    {hsem : DmaTarget.Typed (nD := nD) .hbm (SemLoc.dma (semAt n)) (DmaTarget.here (τ := τ) (p := Proc.tc) (dstAt n))}
    {k : PUnit → Prog (TpuEff nD τ sig (Elt F) Λ₀ .tc) α} {Q : α → sProp 𝕄}
    (h : issuing c i h1 X f (n.val + 1) ⊢ wp frame (wpE (defs₀ (F := F)) 𝒱 (c : Thread nD τ) none) Set.univ (k ⟨⟩) Q) :
    issuing c i h1 X f n.val
      ⊢ wp frame (wpE (defs₀ (F := F)) 𝒱 (c : Thread nD τ) none) Set.univ
        (Prog.lift (.enqueueDma (srcAt i h1 n) (.here (dstAt n)) (.dma (semAt n)) hsrc hdst hsem) >>= k) Q := by
  refine exec_dmaLent (EC := countersEmb (U := Pipeline.UD sig nD τ)) (c := (c : Thread nD τ)) (bd := none) (𝒱 := 𝒱)
    (R := iprop(others (idle c i h1 X f) (flying c i h1 X f) n ∗ ∃ W, owes (c : Thread nD τ) 0 W))
    (P' := issuing c i h1 X f (n.val + 1)) (q := fullShare) (fs := X) (fd := f) ?_ subset_rfl (ι := ()) _ rfl (amount_pos n)
    (landed c i h1 X f n) rfl ?_ h
  · unfold issuing; rw [upTo_cur]; exact ⟨sep_assoc.1.trans sep_comm.1, sep_comm.1.trans sep_assoc.2⟩
  · unfold issuing; rw [upTo_next]; exact ⟨sep_assoc.1.trans sep_comm.1, sep_comm.1.trans sep_assoc.2⟩

theorem wait_step (n : Fin 96) {s' : Shape} {e' : EltTy} {sp' : Space} {srcw : Memref sig .tc sp' s' e'} {hsrc : srcw.view.WordExact} {hdst : (dstAt n).view.WordExact}
    {k : PUnit → Prog (TpuEff nD τ sig (Elt F) Λ₀ .tc) α} {Q : α → sProp 𝕄}
    (h : awaiting c i h1 X f (n.val + 1) ⊢ wp frame (wpE (defs₀ (F := F)) 𝒱 (c : Thread nD τ) none) Set.univ (k ⟨⟩) Q) :
    awaiting c i h1 X f n.val
      ⊢ wp frame (wpE (defs₀ (F := F)) 𝒱 (c : Thread nD τ) none) Set.univ
        (Prog.lift (.waitDma2 (semAt n) srcw (dstAt n) hsrc hdst) >>= k) Q := by
  unfold awaiting at h ⊢
  iintro ⟨H, ⟨%W, HO⟩⟩
  iapply (exec_waitLent (EC := countersEmb (U := Pipeline.UD sig nD τ)) (c := (c : Thread nD τ)) (bd := none) (𝒱 := 𝒱) (defs := defs₀ (F := F)) (R := others (flying c i h1 X f) (done c i h1 X f) n)
    (P := iprop(upTo (flying c i h1 X f) (done c i h1 X f) n.val ∗ owes (c : Thread nD τ) 0 W))
    (P' := iprop(upTo (flying c i h1 X f) (done c i h1 X f) (n.val + 1) ∗ owes (c : Thread nD τ) 0 (insert (SemLoc.dma (semAt n), ()) W)))
    (sem := semAt n) (srcw := srcw) (dstw := dstAt n) ?_ rfl ?_ ?_) $$ [H HO]
  · rw [upTo_cur]; unfold flying
    constructor
    · iintro ⟨⟨Hf, Ho⟩, HO⟩
      isplitl [Ho]; · iexact Ho
      isplitl [Hf]; · iexact Hf
      iexact HO
    · iintro ⟨Ho, Hf, HO⟩
      isplitl [Hf Ho]
      · isplitl [Hf]; · iexact Hf
        iexact Ho
      iexact HO
  · rw [upTo_next]; unfold done
    constructor
    · iintro ⟨⟨⟨Hd, Hs, Hv⟩, Ho⟩, HO⟩
      isplitl [Ho]; · iexact Ho
      isplitl [Hd]; · iexact Hd
      isplitl [Hs]; · iexact Hs
      isplitl [Hv]; · iexact Hv
      iexact HO
    · iintro ⟨Ho, Hd, Hs, Hv, HO⟩
      isplitl [Hd Hs Hv Ho]
      · isplitl [Hd Hs Hv]
        · isplitl [Hd]; · iexact Hd
          isplitl [Hs]; · iexact Hs
          iexact Hv
        iexact Ho
      iexact HO
  · refine BIBase.Entails.trans ?_ h
    iintro ⟨H, HO⟩
    isplitl [H]; · iexact H
    iexists _; iexact HO
  · isplitl [H]; · iexact H
    iexact HO

/-! ## The printed parts -/

theorem issue_nth (n : ℕ) (hn : n < 96) {hsrc : (srcAt i h1 ⟨n, hn⟩).view.WordExact} {hdst : (dstAt ⟨n, hn⟩).view.WordExact}
    {hsem : DmaTarget.Typed (nD := nD) .hbm (SemLoc.dma (semAt ⟨n, hn⟩)) (DmaTarget.here (τ := τ) (p := Proc.tc) (dstAt ⟨n, hn⟩))}
    {k : PUnit → Prog (TpuEff nD τ sig (Elt F) Λ₀ .tc) α} {Q : α → sProp 𝕄}
    (h : issuing c i h1 X f (n + 1) ⊢ wp frame (wpE (defs₀ (F := F)) 𝒱 (c : Thread nD τ) none) Set.univ (k ⟨⟩) Q) :
    issuing c i h1 X f n
      ⊢ wp frame (wpE (defs₀ (F := F)) 𝒱 (c : Thread nD τ) none) Set.univ
        (Prog.lift (.enqueueDma (srcAt i h1 ⟨n, hn⟩) (.here (dstAt ⟨n, hn⟩)) (.dma (semAt ⟨n, hn⟩)) hsrc hdst hsem) >>= k) Q :=
  issue_step c i h1 X f ⟨n, hn⟩ h

theorem wait_nth (n : ℕ) (hn : n < 96) {s' : Shape} {e' : EltTy} {sp' : Space} {srcw : Memref sig .tc sp' s' e'} {hsrc : srcw.view.WordExact}
    {hdst : (dstAt ⟨n, hn⟩).view.WordExact} {k : PUnit → Prog (TpuEff nD τ sig (Elt F) Λ₀ .tc) α} {Q : α → sProp 𝕄}
    (h : awaiting c i h1 X f (n + 1) ⊢ wp frame (wpE (defs₀ (F := F)) 𝒱 (c : Thread nD τ) none) Set.univ (k ⟨⟩) Q) :
    awaiting c i h1 X f n
      ⊢ wp frame (wpE (defs₀ (F := F)) 𝒱 (c : Thread nD τ) none) Set.univ
        (Prog.lift (.waitDma2 (semAt ⟨n, hn⟩) srcw (dstAt ⟨n, hn⟩) hsrc hdst) >>= k) Q :=
  wait_step c i h1 X f ⟨n, hn⟩ h

theorem turn_step (n : ℕ) (hn : n = 96) {G : sProp 𝕄} (h : awaiting c i h1 X f 0 ⊢ G) : issuing c i h1 X f n ⊢ G := by
  subst hn; rw [issuing_all]; exact h

theorem ret_step {P : sProp 𝕄} {a : α} {Q : α → sProp 𝕄} (h : P ⊢ Q a) :
    P ⊢ wp frame (wpE (defs₀ (F := F)) 𝒱 (c : Thread nD τ) none) Set.univ (pure a) Q := h.trans (le_wp_ret _ _ _ a Q)

variable (arg2 : Memref sig .tc .smem S2x16x8x3 .i32) (harg2 : arg2.IsWhole) (arg4 : Memref sig .tc .vmem S8x16x4 .f32) (harg4 : arg4.IsWhole)
  (arg5 : Memref sig .tc .vmem S4x16x4 .f32) (harg5 : arg5.IsWhole) (arg6 : Memref sig .tc .vmem S2x16x4 .f32) (harg6 : arg6.IsWhole)
  (arg7 : Memref sig .tc .vmem S1x16x4 .f32) (harg7 : arg7.IsWhole) (arg8 : Memref sig .tc .vmem S1x1x111x111 .f32) (harg8 : arg8.IsWhole)
  (arg11 : Memref sig .tc .vmem S8x222x222 .f32) (harg11 : arg11.IsWhole) (harg3 : (xM).IsWhole) (harg9 : (sM).IsWhole) (arg0 : BitVec 32)

set_option maxHeartbeats 8000000 in
/-- All 96 issues, and the waits but the last. -/
theorem part47_run : issuing c i h1 X f 0 ⊢ wp frame (wpE (defs₀ (F := F)) 𝒱 (c : Thread nD τ) none) Set.univ
    (k0_part47 (F := F) i arg2 harg2 xM harg3 arg4 harg4 arg5 harg5 arg6 harg6 arg7 harg7 arg8 harg8 sM harg9 cc0_scratch1 arg11 harg11 arg0 h1)
    (fun _ => awaiting c i h1 X f 95) := by
  rw [k0_part47_eq_skeleton]; unfold k0_part47_skel
  rw [wp_bind, k0_part1_eq_skeleton]; unfold k0_part1_skel
  iterate 3 refine issue_nth c i h1 X f _ (by decide) ?_
  refine ret_step c ?_
  rw [wp_bind, k0_part2_eq_skeleton]; unfold k0_part2_skel
  iterate 4 refine issue_nth c i h1 X f _ (by decide) ?_
  refine ret_step c ?_
  rw [wp_bind, k0_part3_eq_skeleton]; unfold k0_part3_skel
  iterate 3 refine issue_nth c i h1 X f _ (by decide) ?_
  refine ret_step c ?_
  rw [wp_bind, k0_part4_eq_skeleton]; unfold k0_part4_skel
  iterate 4 refine issue_nth c i h1 X f _ (by decide) ?_
  refine ret_step c ?_
  rw [wp_bind, k0_part5_eq_skeleton]; unfold k0_part5_skel
  iterate 3 refine issue_nth c i h1 X f _ (by decide) ?_
  refine ret_step c ?_
  rw [wp_bind, k0_part6_eq_skeleton]; unfold k0_part6_skel
  iterate 4 refine issue_nth c i h1 X f _ (by decide) ?_
  refine ret_step c ?_
  rw [wp_bind, k0_part7_eq_skeleton]; unfold k0_part7_skel
  iterate 3 refine issue_nth c i h1 X f _ (by decide) ?_
  refine ret_step c ?_
  rw [wp_bind, k0_part8_eq_skeleton]; unfold k0_part8_skel
  iterate 4 refine issue_nth c i h1 X f _ (by decide) ?_
  refine ret_step c ?_
  rw [wp_bind, k0_part9_eq_skeleton]; unfold k0_part9_skel
  iterate 3 refine issue_nth c i h1 X f _ (by decide) ?_
  refine ret_step c ?_
  rw [wp_bind, k0_part10_eq_skeleton]; unfold k0_part10_skel
  iterate 4 refine issue_nth c i h1 X f _ (by decide) ?_
  refine ret_step c ?_
  rw [wp_bind, k0_part11_eq_skeleton]; unfold k0_part11_skel
  iterate 3 refine issue_nth c i h1 X f _ (by decide) ?_
  refine ret_step c ?_
  rw [wp_bind, k0_part12_eq_skeleton]; unfold k0_part12_skel
  iterate 4 refine issue_nth c i h1 X f _ (by decide) ?_
  refine ret_step c ?_
  rw [wp_bind, k0_part13_eq_skeleton]; unfold k0_part13_skel
  iterate 3 refine issue_nth c i h1 X f _ (by decide) ?_
  refine ret_step c ?_
  rw [wp_bind, k0_part14_eq_skeleton]; unfold k0_part14_skel
  iterate 4 refine issue_nth c i h1 X f _ (by decide) ?_
  refine ret_step c ?_
  rw [wp_bind, k0_part15_eq_skeleton]; unfold k0_part15_skel
  iterate 3 refine issue_nth c i h1 X f _ (by decide) ?_
  refine ret_step c ?_
  rw [wp_bind, k0_part16_eq_skeleton]; unfold k0_part16_skel
  iterate 4 refine issue_nth c i h1 X f _ (by decide) ?_
  refine ret_step c ?_
  rw [wp_bind, k0_part17_eq_skeleton]; unfold k0_part17_skel
  iterate 4 refine issue_nth c i h1 X f _ (by decide) ?_
  refine ret_step c ?_
  rw [wp_bind, k0_part18_eq_skeleton]; unfold k0_part18_skel
  iterate 3 refine issue_nth c i h1 X f _ (by decide) ?_
  refine ret_step c ?_
  rw [wp_bind, k0_part19_eq_skeleton]; unfold k0_part19_skel
  iterate 4 refine issue_nth c i h1 X f _ (by decide) ?_
  refine ret_step c ?_
  rw [wp_bind, k0_part20_eq_skeleton]; unfold k0_part20_skel
  iterate 3 refine issue_nth c i h1 X f _ (by decide) ?_
  refine ret_step c ?_
  rw [wp_bind, k0_part21_eq_skeleton]; unfold k0_part21_skel
  iterate 4 refine issue_nth c i h1 X f _ (by decide) ?_
  refine ret_step c ?_
  rw [wp_bind, k0_part22_eq_skeleton]; unfold k0_part22_skel
  iterate 3 refine issue_nth c i h1 X f _ (by decide) ?_
  refine ret_step c ?_
  rw [wp_bind, k0_part23_eq_skeleton]; unfold k0_part23_skel
  iterate 4 refine issue_nth c i h1 X f _ (by decide) ?_
  refine ret_step c ?_
  rw [wp_bind, k0_part24_eq_skeleton]; unfold k0_part24_skel
  iterate 3 refine issue_nth c i h1 X f _ (by decide) ?_
  refine ret_step c ?_
  rw [wp_bind, k0_part25_eq_skeleton]; unfold k0_part25_skel
  iterate 4 refine issue_nth c i h1 X f _ (by decide) ?_
  refine ret_step c ?_
  rw [wp_bind, k0_part26_eq_skeleton]; unfold k0_part26_skel
  iterate 3 refine issue_nth c i h1 X f _ (by decide) ?_
  refine ret_step c ?_
  rw [wp_bind, k0_part27_eq_skeleton]; unfold k0_part27_skel
  iterate 4 refine issue_nth c i h1 X f _ (by decide) ?_
  refine ret_step c ?_
  rw [wp_bind, k0_part28_eq_skeleton]; unfold k0_part28_skel
  iterate 1 refine issue_nth c i h1 X f _ (by decide) ?_
  refine turn_step c i h1 X f _ rfl ?_
  iterate 4 refine wait_nth c i h1 X f _ (by decide) ?_
  refine ret_step c ?_
  rw [wp_bind, k0_part29_eq_skeleton]; unfold k0_part29_skel
  iterate 5 refine wait_nth c i h1 X f _ (by decide) ?_
  refine ret_step c ?_
  rw [wp_bind, k0_part30_eq_skeleton]; unfold k0_part30_skel
  iterate 5 refine wait_nth c i h1 X f _ (by decide) ?_
  refine ret_step c ?_
  rw [wp_bind, k0_part31_eq_skeleton]; unfold k0_part31_skel
  iterate 5 refine wait_nth c i h1 X f _ (by decide) ?_
  refine ret_step c ?_
  rw [wp_bind, k0_part32_eq_skeleton]; unfold k0_part32_skel
  iterate 5 refine wait_nth c i h1 X f _ (by decide) ?_
  refine ret_step c ?_
  rw [wp_bind, k0_part33_eq_skeleton]; unfold k0_part33_skel
  iterate 5 refine wait_nth c i h1 X f _ (by decide) ?_
  refine ret_step c ?_
  rw [wp_bind, k0_part34_eq_skeleton]; unfold k0_part34_skel
  iterate 5 refine wait_nth c i h1 X f _ (by decide) ?_
  refine ret_step c ?_
  rw [wp_bind, k0_part35_eq_skeleton]; unfold k0_part35_skel
  iterate 5 refine wait_nth c i h1 X f _ (by decide) ?_
  refine ret_step c ?_
  rw [wp_bind, k0_part36_eq_skeleton]; unfold k0_part36_skel
  iterate 5 refine wait_nth c i h1 X f _ (by decide) ?_
  refine ret_step c ?_
  rw [wp_bind, k0_part37_eq_skeleton]; unfold k0_part37_skel
  iterate 5 refine wait_nth c i h1 X f _ (by decide) ?_
  refine ret_step c ?_
  rw [wp_bind, k0_part38_eq_skeleton]; unfold k0_part38_skel
  iterate 5 refine wait_nth c i h1 X f _ (by decide) ?_
  refine ret_step c ?_
  rw [wp_bind, k0_part39_eq_skeleton]; unfold k0_part39_skel
  iterate 5 refine wait_nth c i h1 X f _ (by decide) ?_
  refine ret_step c ?_
  rw [wp_bind, k0_part40_eq_skeleton]; unfold k0_part40_skel
  iterate 5 refine wait_nth c i h1 X f _ (by decide) ?_
  refine ret_step c ?_
  rw [wp_bind, k0_part41_eq_skeleton]; unfold k0_part41_skel
  iterate 5 refine wait_nth c i h1 X f _ (by decide) ?_
  refine ret_step c ?_
  rw [wp_bind, k0_part42_eq_skeleton]; unfold k0_part42_skel
  iterate 5 refine wait_nth c i h1 X f _ (by decide) ?_
  refine ret_step c ?_
  rw [wp_bind, k0_part43_eq_skeleton]; unfold k0_part43_skel
  iterate 5 refine wait_nth c i h1 X f _ (by decide) ?_
  refine ret_step c ?_
  rw [wp_bind, k0_part44_eq_skeleton]; unfold k0_part44_skel
  iterate 5 refine wait_nth c i h1 X f _ (by decide) ?_
  refine ret_step c ?_
  rw [wp_bind, k0_part45_eq_skeleton]; unfold k0_part45_skel
  iterate 5 refine wait_nth c i h1 X f _ (by decide) ?_
  refine ret_step c ?_
  rw [wp_bind, k0_part46_eq_skeleton]; unfold k0_part46_skel
  iterate 5 refine wait_nth c i h1 X f _ (by decide) ?_
  refine ret_step c ?_
  refine wait_nth c i h1 X f _ (by decide) ?_
  exact ret_step c .rfl

end Cert.KernelIdeal.Hand

end
-- ==== Proof.Copies.lean ====
/- The copies of one batch's planes, from whole buffers to whole buffers. -/
module

public import proofs.«01_k».proof.Proof.Stage
public import Idealize.ShloMosaic.Lib.ValueLayout

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (Pipeline.UD sig nD τ) ℕ

variable (c : Dev nD) (i : grid0.Coords) (h1 : k0_cond1 i = 1#1) (X : XBuf (F := F) c) (f : SBuf (F := F) c)

/-! ## The copies from whole buffers to whole buffers -/

theorem off1_eq (n : Fin 96) : k0_off1 i (BitVec.ofNat 32 n.val) = ![((i 0).val * 96 + n.val) * 224, 0] := by
  have hb : (i 0).val < 2 := (i 0).isLt
  have hn := n.isLt
  have : k0_off1 i (BitVec.ofNat 32 n.val) = ![((BitVec.ofNat 32 (i 0).val * 96#32 + BitVec.ofNat 32 n.val) * 224#32).toNat, 0] := rfl
  rw [this]
  congr 1
  simp only [BitVec.toNat_mul, BitVec.toNat_add, BitVec.toNat_ofNat]
  omega

/-- The batch of a grid point. -/
abbrev bat : Fin 2 := ⟨(i 0).val, (i 0).isLt⟩

/-- One batch of the input, as the staging buffer holds it: channel, row, column. -/
def img (b : Fin 2) : SBuf (F := F) c :=
  fun idx : S96x224x224.Idx => (X : S43008x224.Idx → Elt F .f32)
    (ix2 ⟨(b.val * 96 + (idx 0).val) * 224 + (idx 1).val, by
      have h0 : (idx 0).val < 96 := (idx 0).isLt
      have h1 : (idx 1).val < 224 := (idx 1).isLt
      have := b.isLt
      omega⟩ ⟨(idx 2).val, (idx 2).isLt⟩)

theorem mem_dst (n : Fin 96) (x : S96x224x224.Idx) : x ∈ (dstAt n).view.set ↔ (x 0).val = n.val := by
  rw [show (dstAt n).view.set = (Rect.unit (s := S96x224x224) ![n.val, 0, 0] S1x224x224.size (inbD n)).set from
    (View.set_reshape _ _).trans (View.set_slice_whole _ _)]
  rw [Rect.mem_set_unit]
  constructor
  · intro h
    have h0 : n.val ≤ (x 0).val ∧ (x 0).val < n.val + 1 := h 0
    omega
  · intro h a
    fin_cases a
    · show n.val ≤ (x 0).val ∧ (x 0).val < n.val + 1
      omega
    · exact ⟨Nat.zero_le _, (show (x 1).val < 0 + 224 by have : (x 1).val < 224 := (x 1).isLt; omega)⟩
    · exact ⟨Nat.zero_le _, (show (x 2).val < 0 + 224 by have : (x 2).val < 224 := (x 2).isLt; omega)⟩

theorem mem_src (n : Fin 96) (x : S43008x224.Idx) :
    x ∈ (srcAt i h1 n).view.set ↔ ((i 0).val * 96 + n.val) * 224 ≤ (x 0).val ∧ (x 0).val < ((i 0).val * 96 + n.val) * 224 + 224 := by
  rw [show (srcAt i h1 n).view.set = (Rect.unit (s := S43008x224) (k0_off1 i (BitVec.ofNat 32 n.val)) S224x224.size (k0_off1_inb i h1 n)).set from
    View.set_slice_whole _ _]
  rw [Rect.mem_set_unit]
  have e := off1_eq i n
  constructor
  · intro h
    have h0 := h 0
    rw [e] at h0
    exact h0
  · intro h a
    rw [e]
    fin_cases a
    · exact h
    · exact ⟨Nat.zero_le _, (show (x 1).val < 0 + 224 by have : (x 1).val < 224 := (x 1).isLt; omega)⟩

theorem dst_disjoint (n n' : Fin 96) (h : n ≠ n') : Disjoint ((dstAt n).view.set : Finset S96x224x224.Idx) (dstAt n').view.set := by
  rw [Finset.disjoint_left]
  intro x hx hx'
  exact h (Fin.ext (((mem_dst n x).mp hx).symm.trans ((mem_dst n' x).mp hx')))

theorem dst_cover : (Finset.univ.biUnion (fun n : Fin 96 => (dstAt n).view.set) : Finset S96x224x224.Idx) = Finset.univ := by
  ext x
  simp only [Finset.mem_biUnion, Finset.mem_univ, true_and, iff_true]
  exact ⟨⟨((x : S96x224x224.Idx) 0).val, ((x : S96x224x224.Idx) 0).isLt⟩, (mem_dst _ x).mpr rfl⟩

theorem src_disjoint (n n' : Fin 96) (h : n ≠ n') : Disjoint (srcAt i h1 n).view.set (srcAt i h1 n').view.set := by
  rw [Finset.disjoint_left]
  intro x hx hx'
  have e := (mem_src i h1 n x).mp hx
  have e' := (mem_src i h1 n' x).mp hx'
  exact h (Fin.ext (by omega))

/-- The rows of the input the copies at this point read. -/
def srcAll : Finset (Idx ((c : Thread nD τ).loc main_call0_v0)) := Finset.univ.biUnion fun n : Fin 96 => (srcAt i h1 n).view.set

theorem landed_eq (n : Fin 96) (x : Idx ((c : Thread nD τ).loc cc0_scratch0)) (hx : x ∈ (dstAt n).view.set) :
    landed c i h1 X f n x = img c X (bat i) x := by
  obtain ⟨y, -, rfl⟩ := Finset.mem_map.mp hx
  refine (View.write_emb_of_mem _ _ (Finset.mem_univ y)).trans ?_
  obtain ⟨r, q, rfl⟩ : ∃ (r : Fin 224) (q : Fin 224), y = ix2 r q := ⟨y 0, y 1, by funext a; fin_cases a <;> rfl⟩
  have hq : (dstAt n).view.emb (ix2 r q) = (ix3 n r q : S96x224x224.Idx) := by
    show (Rect.unit (s := S96x224x224) ![n.val, 0, 0] S1x224x224.size (inbD n)).emb (Shape.reshapeEquiv _ (ix2 r q)) = _
    rw [reshapeEquiv_ix2_1ab]
    funext a
    fin_cases a
    · exact Fin.ext (by show n.val + 1 * 0 = n.val; omega)
    · exact Fin.ext (by show 0 + 1 * r.val = r.val; omega)
    · exact Fin.ext (by show 0 + 1 * q.val = q.val; omega)
  rw [hq]
  show (X : S43008x224.Idx → Elt F .f32) ((srcAt i h1 n).view.emb (ix2 r q)) = (X : S43008x224.Idx → Elt F .f32) _
  refine congrArg (X : S43008x224.Idx → Elt F .f32) ?_
  have e := off1_eq i n
  funext a
  fin_cases a
  · exact Fin.ext (by
      show (k0_off1 i (BitVec.ofNat 32 n.val)) 0 + 1 * r.val = ((i 0).val * 96 + n.val) * 224 + r.val
      rw [e]; show ((i 0).val * 96 + n.val) * 224 + 1 * r.val = _; omega)
  · exact Fin.ext (by
      show (k0_off1 i (BitVec.ofNat 32 n.val)) 1 + 1 * q.val = q.val
      rw [e]; show 0 + 1 * q.val = _; omega)

theorem sep3 (A B C : Fin 96 → sProp 𝕄) : bigSep Finset.univ (fun n => iprop(A n ∗ B n ∗ C n))
    = iprop(bigSep Finset.univ A ∗ bigSep Finset.univ B ∗ bigSep Finset.univ C) :=
  (bigSep_sep _ _ _).trans (congrArg (fun R => iprop(bigSep Finset.univ A ∗ R)) (bigSep_sep _ _ _))

theorem idle_eq : (bigSep Finset.univ (idle c i h1 X f) : sProp 𝕄)
    = iprop(((c : Thread nD τ).loc main_call0_v0 ↦[srcAll c i h1]{fullShare} X) ∗ ((c : Thread nD τ).loc cc0_scratch0 ↦{fullShare} f)
        ∗ Pipeline.ownSems0 osem0 c) := by
  refine (sep3 _ _ _).trans ?_
  refine congrArg₂ (fun A B => iprop(A ∗ B)) ?_ (congrArg₂ (fun A B => iprop(A ∗ B)) ?_ rfl)
  · exact (pointsTo_biUnion (ℓ := (c : Thread nD τ).loc main_call0_v0) (q := fullShare) (f := X) Finset.univ (fun n : Fin 96 => (srcAt i h1 n).view.set)
      (fun n _ n' _ h => src_disjoint i h1 n n' h)).symm
  · exact (Idealize.ShloMosaic.Ring.pointsTo_blocks (ℓ := (c : Thread nD τ).loc cc0_scratch0) (fun n : Fin 96 => (dstAt n).view.set) dst_disjoint dst_cover f).symm

theorem done_eq : (bigSep Finset.univ (done c i h1 X f) : sProp 𝕄)
    = iprop(((c : Thread nD τ).loc cc0_scratch0 ↦{fullShare} img c X (bat i)) ∗ ((c : Thread nD τ).loc main_call0_v0 ↦[srcAll c i h1]{fullShare} X)
        ∗ Pipeline.ownSems0 osem0 c) := by
  refine (sep3 _ _ _).trans ?_
  refine congrArg₂ (fun A B => iprop(A ∗ B)) ?_ (congrArg₂ (fun A B => iprop(A ∗ B)) ?_ rfl)
  · refine Eq.trans (bigSep_congr fun n _ => pointsTo_congr (g := img c X (bat i)) fun x hx => landed_eq c i h1 X f n x hx) ?_
    exact (Idealize.ShloMosaic.Ring.pointsTo_blocks (ℓ := (c : Thread nD τ).loc cc0_scratch0) (fun n : Fin 96 => (dstAt n).view.set) dst_disjoint dst_cover _).symm
  · exact (pointsTo_biUnion (ℓ := (c : Thread nD τ).loc main_call0_v0) (q := fullShare) (f := X) Finset.univ (fun n : Fin 96 => (srcAt i h1 n).view.set)
      (fun n _ n' _ h => src_disjoint i h1 n n' h)).symm

variable {𝒱 : Variants} (arg2 : Memref sig .tc .smem S2x16x8x3 .i32) (harg2 : arg2.IsWhole) (arg4 : Memref sig .tc .vmem S8x16x4 .f32) (harg4 : arg4.IsWhole)
  (arg5 : Memref sig .tc .vmem S4x16x4 .f32) (harg5 : arg5.IsWhole) (arg6 : Memref sig .tc .vmem S2x16x4 .f32) (harg6 : arg6.IsWhole)
  (arg7 : Memref sig .tc .vmem S1x16x4 .f32) (harg7 : arg7.IsWhole) (arg8 : Memref sig .tc .vmem S1x1x111x111 .f32) (harg8 : arg8.IsWhole)
  (arg11 : Memref sig .tc .vmem S8x222x222 .f32) (harg11 : arg11.IsWhole) (harg3 : (xM).IsWhole) (harg9 : (sM).IsWhole) (arg0 : BitVec 32)

/-- What the copies take and give back: the staging buffer, the input, the semaphores, the waits recorded. -/
def held (g : SBuf (F := F) c) : sProp 𝕄 :=
  iprop(((c : Thread nD τ).loc cc0_scratch0 ↦{fullShare} g) ∗ ((c : Thread nD τ).loc main_call0_v0 ↦{fullShare} X)
    ∗ Pipeline.ownSems0 osem0 c ∗ ∃ W, owes (c : Thread nD τ) 0 W)

/-- The rows of the input that the copies leave alone. -/
def spare : sProp 𝕄 := (c : Thread nD τ).loc main_call0_v0 ↦[Finset.univ \ srcAll c i h1]{fullShare} X

theorem x_split : ((c : Thread nD τ).loc main_call0_v0 ↦{fullShare} X : sProp 𝕄)
    ⊣⊢ iprop(((c : Thread nD τ).loc main_call0_v0 ↦[srcAll c i h1]{fullShare} X) ∗ spare c i h1 X) :=
  pointsTo_split_subset (Finset.subset_univ _)

theorem held_in : held c X f ⊢ iprop(issuing c i h1 X f 0 ∗ spare c i h1 X) := by
  unfold held issuing
  rw [upTo_zero, idle_eq]
  iintro ⟨Hs, Hx, Hv, HO⟩
  ihave Hx' := (x_split c i h1 X).1 $$ Hx
  icases Hx' with ⟨Hx, Hr⟩
  isplitl [Hs Hx Hv HO]
  · isplitl [Hs Hx Hv]
    · isplitl [Hx]; · iexact Hx
      isplitl [Hs]; · iexact Hs
      iexact Hv
    iexact HO
  iexact Hr

theorem held_out : iprop(awaiting c i h1 X f 96 ∗ spare c i h1 X) ⊢ held c X (img c X (bat i)) := by
  unfold held awaiting
  rw [upTo_all, done_eq]
  iintro ⟨⟨⟨Hs, Hx, Hv⟩, HO⟩, Hr⟩
  isplitl [Hs]; · iexact Hs
  isplitl [Hx Hr]
  · iapply (x_split c i h1 X).2
    isplitl [Hx]; · iexact Hx
    iexact Hr
  isplitl [Hv]; · iexact Hv
  iexact HO

/-- The copies in full. -/
theorem copies_run {hsrc : (xM.slice (Rect.unit (s := S43008x224) ![0, 0] S224x224.size inb_S43008x224_S224x224_0_0) (fun _ => rfl)).view.WordExact}
    {hdst : (dstAt 95).view.WordExact} :
    held c X f ⊢ wp frame (wpE (defs₀ (F := F)) 𝒱 (c : Thread nD τ) none) Set.univ
    (k0_part47 (F := F) i arg2 harg2 xM harg3 arg4 harg4 arg5 harg5 arg6 harg6 arg7 harg7 arg8 harg8 sM harg9 cc0_scratch1 arg11 harg11 arg0 h1
      >>= fun _ => Prog.lift (.waitDma2 (semAt 95) (xM.slice (Rect.unit (s := S43008x224) ![0, 0] S224x224.size inb_S43008x224_S224x224_0_0) (fun _ => rfl)) (dstAt 95) hsrc hdst)
      >>= fun _ => pure PUnit.unit)
    (fun _ => held c X (img c X (bat i))) := by
  have h := part47_run c i h1 X f (𝒱 := 𝒱) arg2 harg2 arg4 harg4 arg5 harg5 arg6 harg6 arg7 harg7 arg8 harg8 arg11 harg11 harg3 harg9 arg0
  refine (held_in c i h1 X f).trans ((sep_mono_left ?_).trans
    ((wp_frame_r frame _ _).trans (wp_mono _ _ _ fun _ => held_out c i h1 X f)))
  rw [wp_bind]
  refine h.trans (wp_mono _ _ _ fun _ => ?_)
  refine wait_nth c i h1 X f 95 (by decide) ?_
  exact ret_step c .rfl

/-- What the staging buffer holds after the copies' branch. -/
def stagedBy (i : grid0.Coords) (X : XBuf (F := F) c) (f : SBuf (F := F) c) : SBuf (F := F) c :=
  if k0_cond1 i = 1#1 then img c X (bat i) else f

/-- The branch: the copies at the first step of a batch, nothing at the others. -/
theorem branch_run {hsrc : (xM.slice (Rect.unit (s := S43008x224) ![0, 0] S224x224.size inb_S43008x224_S224x224_0_0) (fun _ => rfl)).view.WordExact}
    {hdst : (dstAt 95).view.WordExact} :
    held c X f ⊢ wp frame (wpE (defs₀ (F := F)) 𝒱 (c : Thread nD τ) none) Set.univ
    (if h : k0_cond1 i = 1#1 then
      (k0_part47 (F := F) i arg2 harg2 xM harg3 arg4 harg4 arg5 harg5 arg6 harg6 arg7 harg7 arg8 harg8 sM harg9 cc0_scratch1 arg11 harg11 arg0 h
        >>= fun _ => Prog.lift (.waitDma2 (semAt 95) (xM.slice (Rect.unit (s := S43008x224) ![0, 0] S224x224.size inb_S43008x224_S224x224_0_0) (fun _ => rfl)) (dstAt 95) hsrc hdst)
        >>= fun _ => pure PUnit.unit)
     else pure PUnit.unit)
    (fun _ => held c X (stagedBy c i X f)) := by
  unfold stagedBy
  by_cases h : k0_cond1 i = 1#1
  · rw [dif_pos h, if_pos h]
    exact copies_run c i h X f arg2 harg2 arg4 harg4 arg5 harg5 arg6 harg6 arg7 harg7 arg8 harg8 arg11 harg11 harg3 harg9 arg0
  · rw [dif_neg h, if_neg h]
    exact ret_step c .rfl

end Cert.KernelIdeal.Hand

end
-- ==== Proof.Body.lean ====
/- The kernel's body at one grid point: what it computes, and its steps one by one. -/
module

public import proofs.«01_k».proof.Proof.Copies

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (Pipeline.UD sig nD τ) ℕ

variable (c : Dev nD) (i : grid0.Coords)
variable (a2 : Vec F S2x16x8x3 .i32) (a4 : Vec F S8x16x4 .f32) (a5 : Vec F S4x16x4 .f32) (a6 : Vec F S2x16x4 .f32) (a7 : Vec F S1x16x4 .f32)
  (g : Vec F S96x224x224 .f32)
variable (arg2 : Memref sig .tc .smem S2x16x8x3 .i32) (arg4 : Memref sig .tc .vmem S8x16x4 .f32)
  (arg5 : Memref sig .tc .vmem S4x16x4 .f32) (arg6 : Memref sig .tc .vmem S2x16x4 .f32)
  (arg7 : Memref sig .tc .vmem S1x16x4 .f32) (arg8 : Memref sig .tc .vmem S1x1x111x111 .f32)

/-- The leaves' scratch, whole. -/
abbrev pM : Memref sig .tc .vmem S8x222x222 .f32 := Memref.whole cc0_scratch2

/-! ## What the body computes -/

theorem word_inb (r : Fin 2) (l : Fin 8) (k : Fin 3) (i : grid0.Coords) :
    ∀ a, (![r.val, (i 1).val, l.val, k.val] : Fin 4 → ℕ) a + S1x1x1x1.size a ≤ S2x16x8x3.size a := by
  have h : (i 1).val < 16 := (i 1).isLt
  intro a; fin_cases a
  · exact r.isLt
  · exact h
  · exact l.isLt
  · exact k.isLt

/-- The word naming coordinate `k` of operand `r` of leaf `l`. -/
def word (r : Fin 2) (l : Fin 8) (k : Fin 3) : BitVec 32 :=
  a2 (ix4 r ⟨(i 1).val, (i 1).isLt⟩ l k)

theorem plane_inb (v : BitVec 32) (hv : v.toNat < 96) : ∀ a, (![v.toNat, 0, 0] : Fin 3 → ℕ) a + S1x224x224.size a ≤ S96x224x224.size a := by
  intro a; fin_cases a
  · exact hv
  · exact Nat.le_refl _
  · exact Nat.le_refl _

/-- The channel's plane. -/
def planeOf (v : BitVec 32) : Vec F S1x224x224 .f32 := fun x => g (ix3 ⟨v.toNat % 96, Nat.mod_lt _ (by decide)⟩ (x 1) (x 2))

/-- One operand of one leaf. -/
def operand (r : Fin 2) (l : Fin 8) : FVec F S222x222 .f32 :=
  k0_pay9 (word i a2 r l 0) (word i a2 r l 1) (planeOf g (word i a2 r l 2))

theorem pick_slices (l : Fin 8) : S8x1x1.Slices ![l.val, 0, 0] S1x1x1 := by revert l; decide

/-- The coefficient of leaf `l`. -/
def pick (l : Fin 8) (p : FVec F S8x1x1 .f32) : FVec F S1x1 .f32 :=
  shapeCast S1x1 (extractStridedSlice S1x1x1 ![l.val, 0, 0] p (pick_slices l)) shapeCasts_S1x1x1_S1x1

/-- One leaf's gate over the whole plane. -/
def gatePlane (p0 p1 p2 p3 : FVec F S1x1 .f32) (a b : FVec F S222x222 .f32) : FVec F S222x222 .f32 :=
  addf (addf (broadcastTo S222x222 p0 broadcasts_S1x1_S222x222) (mulf (broadcastTo S222x222 p1 broadcasts_S1x1_S222x222) a))
    (mulf b (addf (broadcastTo S222x222 p2 broadcasts_S1x1_S222x222) (mulf (broadcastTo S222x222 p3 broadcasts_S1x1_S222x222) a)))

theorem weight4_inb (i : grid0.Coords) : ∀ a, (k0_off2 i) a + S8x1x4.size a ≤ S8x16x4.size a := k0_off2_inb i

/-- The leaves' weights for this step's filter. -/
def leafWeights : Vec F S8x1x4 .f32 := fun x => a4 ((Rect.unit (s := S8x16x4) (k0_off2 i) S8x1x4.size (k0_off2_inb i)).emb x)

/-- One leaf's plane. -/
def leaf (l : Fin 8) : FVec F S1x222x222 .f32 :=
  shapeCast S1x222x222 (gatePlane (pick l (k0_pay3 (leafWeights i a4))) (pick l (k0_pay6 (leafWeights i a4)))
    (pick l (k0_pay7 (leafWeights i a4))) (pick l (k0_pay8 (leafWeights i a4)))
    (operand i a2 g 0 l) (operand i a2 g 1 l)) shapeCasts_S222x222_S1x222x222

/-- All the leaves. -/
def leaves : Vec F S8x222x222 .f32 := fun x => leaf i a2 a4 g (x 0) (ix3 0 (x 1) (x 2))

/-- What the levels above the leaves make of them. -/
def upper (v : Vec F S8x222x222 .f32) (w5 : Vec F S4x1x4 .f32) (w6 : Vec F S2x1x4 .f32) (w7 : Vec F S1x1x4 .f32) : FVec F S222x222 .f32 :=
  k0_pay58 (k0_pay52 (k0_pay43 v) (k0_pay44 v) (k0_pay46 w5) (k0_pay47 w5) (k0_pay48 w5) (k0_pay49 w5))
    (k0_pay56 (k0_pay43 v) (k0_pay44 v) (k0_pay46 w5) (k0_pay47 w5) (k0_pay48 w5) (k0_pay49 w5) w6)
    (k0_pay57 (k0_pay43 v) (k0_pay44 v) (k0_pay46 w5) (k0_pay47 w5) (k0_pay48 w5) (k0_pay49 w5) w6) w7

/-- The plane of the last level's gate. -/
def root : FVec F S222x222 .f32 :=
  upper (leaves i a2 a4 g) (fun x => a5 ((Rect.unit (s := S4x16x4) (k0_off67 i) S4x1x4.size (k0_off67_inb i)).emb x))
    (fun x => a6 ((Rect.unit (s := S2x16x4) (k0_off68 i) S2x1x4.size (k0_off68_inb i)).emb x))
    (fun x => a7 ((Rect.unit (s := S1x16x4) (k0_off69 i) S1x1x4.size (k0_off69_inb i)).emb x))

/-- What the body stores: the last plane at every other row and column. -/
def stored : Vec F S1x1x111x111 .f32 :=
  k0_pay1 (root i a2 a4 a5 a6 a7 g) (iota .tc S222x111 32 [0] iota_S222x111_d0_w32) (k0_pay59 (F := F)) k0_pay60

/-! ## Steps -/

variable {α : Type} {𝒱 : Variants}

/-- A load through a held memref reads its value there. -/
theorem read_step {sp : CoreSpace} {s : Shape} {e : EltTy} (m : Memref sig .tc sp s e) (d : s.Idx → Elt F e) {r : Rect s} {hl : m.view.LoadsAt r.toLoadRect}
    {k : (r.toLoadRect.shape.Idx → Elt F e) → Prog (TpuEff nD τ sig (Elt F) Λ₀ .tc) α} {Q : α → sProp 𝕄} :
    (owns (c : Thread nD τ) m fullShare d : sProp 𝕄)
      ⊢ iprop((owns (c : Thread nD τ) m fullShare d -∗ wp frame (wpE (defs₀ (F := F)) 𝒱 (c : Thread nD τ) none) Set.univ (k fun x => d (r.emb x)) Q)
        -∗ wp frame (wpE (defs₀ (F := F)) 𝒱 (c : Thread nD τ) none) Set.univ (.op (.load m r.toLoadRect hl) k) Q) := by
  unfold owns
  iintro ⟨%f, %hf, H⟩ Hk
  subst hf
  iapply (wp_load 𝒱 (c : Thread nD τ) none Set.univ (m := m) (r := r.toLoadRect) (hl := hl) (k := k) (f := f) (q := fullShare) (S := m.view.set)
    (View.setOn_subset_set _ _)) $$ H
  iintro H
  iapply Hk
  iexists f
  isplitr; · ipureintro; rfl
  iexact H

/-- An assumption that holds is stepped over. -/
theorem assume_step {P : Prop} {d : Decidable P} {k : PLift P → Prog (TpuEff nD τ sig (Elt F) Λ₀ .tc) α} {B : sProp 𝕄} {Q : α → sProp 𝕄} (hP : P)
    (h : B ⊢ wp frame (wpE (defs₀ (F := F)) 𝒱 (c : Thread nD τ) none) Set.univ (k ⟨hP⟩) Q) :
    B ⊢ wp frame (wpE (defs₀ (F := F)) 𝒱 (c : Thread nD τ) none) Set.univ (Prog.lift (TpuEff.assume P d) >>= k) Q :=
  h.trans (wp_assume 𝒱 (c : Thread nD τ) none Set.univ hP)

theorem named_chk {v : BitVec 32} (hv : v.toNat < 96) : k0_chk1 v := plane_inb v hv

/-- The first `n` planes of the scratch hold their leaves. -/
def LeavesIn (n : ℕ) (P : Vec F S8x222x222 .f32) : Prop :=
  ∀ (l : Fin 8) (y : S1x222x222.Idx), l.val < n → P (ix3 l (y 1) (y 2)) = leaf i a2 a4 g l y

theorem leavesIn_all {P : Vec F S8x222x222 .f32} (hP : LeavesIn i a2 a4 g 8 P) : P = leaves i a2 a4 g := by
  funext x
  unfold leaves
  rw [← hP (x 0) (ix3 0 (x 1) (x 2)) (x 0).isLt]
  congr 1
  funext a; fin_cases a <;> rfl

/-- What the body holds between its steps, the first `n` leaves stored; `R` is what its steps do not touch. -/
def Work (rem : sProp 𝕄) (n : ℕ) : sProp 𝕄 :=
  iprop(owns (c : Thread nD τ) sM fullShare g ∗ owns (c : Thread nD τ) arg2 fullShare a2 ∗ owns (c : Thread nD τ) arg4 fullShare a4
    ∗ owns (c : Thread nD τ) arg5 fullShare a5 ∗ owns (c : Thread nD τ) arg6 fullShare a6 ∗ owns (c : Thread nD τ) arg7 fullShare a7
    ∗ ((∃ d, owns (c : Thread nD τ) arg8 fullShare d) ∗ rem)
    ∗ ∃ P, ⌜LeavesIn i a2 a4 g n P⌝ ∗ owns (c : Thread nD τ) pM fullShare P)

/-- A load of the level's weights. -/
theorem weight4_step {rem : sProp 𝕄} {r : Rect S8x16x4} {hl : (arg4).view.LoadsAt r.toLoadRect} (n : ℕ)
    {k : (r.toLoadRect.shape.Idx → Elt F .f32) → Prog (TpuEff nD τ sig (Elt F) Λ₀ .tc) α} {Q : α → sProp 𝕄}
    (h : Work c i a2 a4 a5 a6 a7 g arg2 arg4 arg5 arg6 arg7 arg8 rem n ⊢ wp frame (wpE (defs₀ (F := F)) 𝒱 (c : Thread nD τ) none) Set.univ (k fun x => a4 (r.emb x)) Q) :
    Work c i a2 a4 a5 a6 a7 g arg2 arg4 arg5 arg6 arg7 arg8 rem n
      ⊢ wp frame (wpE (defs₀ (F := F)) 𝒱 (c : Thread nD τ) none) Set.univ (Prog.lift (.load arg4 r.toLoadRect hl) >>= k) Q := by
  unfold Work at h ⊢
  iintro ⟨Hg, H2, H4, H5, H6, H7, H8, H11⟩
  iapply (read_step c arg4 a4 (hl := hl) (k := k)) $$ H4
  iintro H4
  iapply h
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexact H11

/-- A load of the level's weights. -/
theorem weight5_step {rem : sProp 𝕄} {r : Rect S4x16x4} {hl : (arg5).view.LoadsAt r.toLoadRect} (n : ℕ)
    {k : (r.toLoadRect.shape.Idx → Elt F .f32) → Prog (TpuEff nD τ sig (Elt F) Λ₀ .tc) α} {Q : α → sProp 𝕄}
    (h : Work c i a2 a4 a5 a6 a7 g arg2 arg4 arg5 arg6 arg7 arg8 rem n ⊢ wp frame (wpE (defs₀ (F := F)) 𝒱 (c : Thread nD τ) none) Set.univ (k fun x => a5 (r.emb x)) Q) :
    Work c i a2 a4 a5 a6 a7 g arg2 arg4 arg5 arg6 arg7 arg8 rem n
      ⊢ wp frame (wpE (defs₀ (F := F)) 𝒱 (c : Thread nD τ) none) Set.univ (Prog.lift (.load arg5 r.toLoadRect hl) >>= k) Q := by
  unfold Work at h ⊢
  iintro ⟨Hg, H2, H4, H5, H6, H7, H8, H11⟩
  iapply (read_step c arg5 a5 (hl := hl) (k := k)) $$ H5
  iintro H5
  iapply h
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexact H11

/-- A load of the level's weights. -/
theorem weight6_step {rem : sProp 𝕄} {r : Rect S2x16x4} {hl : (arg6).view.LoadsAt r.toLoadRect} (n : ℕ)
    {k : (r.toLoadRect.shape.Idx → Elt F .f32) → Prog (TpuEff nD τ sig (Elt F) Λ₀ .tc) α} {Q : α → sProp 𝕄}
    (h : Work c i a2 a4 a5 a6 a7 g arg2 arg4 arg5 arg6 arg7 arg8 rem n ⊢ wp frame (wpE (defs₀ (F := F)) 𝒱 (c : Thread nD τ) none) Set.univ (k fun x => a6 (r.emb x)) Q) :
    Work c i a2 a4 a5 a6 a7 g arg2 arg4 arg5 arg6 arg7 arg8 rem n
      ⊢ wp frame (wpE (defs₀ (F := F)) 𝒱 (c : Thread nD τ) none) Set.univ (Prog.lift (.load arg6 r.toLoadRect hl) >>= k) Q := by
  unfold Work at h ⊢
  iintro ⟨Hg, H2, H4, H5, H6, H7, H8, H11⟩
  iapply (read_step c arg6 a6 (hl := hl) (k := k)) $$ H6
  iintro H6
  iapply h
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexact H11

/-- A load of the level's weights. -/
theorem weight7_step {rem : sProp 𝕄} {r : Rect S1x16x4} {hl : (arg7).view.LoadsAt r.toLoadRect} (n : ℕ)
    {k : (r.toLoadRect.shape.Idx → Elt F .f32) → Prog (TpuEff nD τ sig (Elt F) Λ₀ .tc) α} {Q : α → sProp 𝕄}
    (h : Work c i a2 a4 a5 a6 a7 g arg2 arg4 arg5 arg6 arg7 arg8 rem n ⊢ wp frame (wpE (defs₀ (F := F)) 𝒱 (c : Thread nD τ) none) Set.univ (k fun x => a7 (r.emb x)) Q) :
    Work c i a2 a4 a5 a6 a7 g arg2 arg4 arg5 arg6 arg7 arg8 rem n
      ⊢ wp frame (wpE (defs₀ (F := F)) 𝒱 (c : Thread nD τ) none) Set.univ (Prog.lift (.load arg7 r.toLoadRect hl) >>= k) Q := by
  unfold Work at h ⊢
  iintro ⟨Hg, H2, H4, H5, H6, H7, H8, H11⟩
  iapply (read_step c arg7 a7 (hl := hl) (k := k)) $$ H7
  iintro H7
  iapply h
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexact H11

/-- A load of one word. -/
theorem word_step {rem : sProp 𝕄} (r : Fin 2) (l : Fin 8) (t : Fin 3) {off : Fin 4 → ℕ} {inb : ∀ a, off a + S1x1x1x1.size a ≤ S2x16x8x3.size a}
    {h1 : (Rect.unit (s := S2x16x8x3) off S1x1x1x1.size inb).shape.numel = 1} {hp : EltTy.i32.packing = 1}
    (ho : off = ![r.val, (i 1).val, l.val, t.val]) (n : ℕ)
    {k : Elt F .i32 → Prog (TpuEff nD τ sig (Elt F) Λ₀ .tc) α} {Q : α → sProp 𝕄}
    (h : Work c i a2 a4 a5 a6 a7 g arg2 arg4 arg5 arg6 arg7 arg8 rem n
      ⊢ wp frame (wpE (defs₀ (F := F)) 𝒱 (c : Thread nD τ) none) Set.univ (k (word i a2 r l t)) Q) :
    Work c i a2 a4 a5 a6 a7 g arg2 arg4 arg5 arg6 arg7 arg8 rem n
      ⊢ wp frame (wpE (defs₀ (F := F)) 𝒱 (c : Thread nD τ) none) Set.univ (smemLoad arg2 (Rect.unit (s := S2x16x8x3) off S1x1x1x1.size inb) h1 hp >>= k) Q := by
  have hw : a2 ((Rect.unit (s := S2x16x8x3) off S1x1x1x1.size inb).emb (Shape.Idx.first (h1.symm ▸ Nat.one_pos))) = word i a2 r l t := by
    subst ho
    unfold word
    congr 1
    funext a; refine Fin.ext ?_; fin_cases a <;> rfl
  rw [← hw] at h
  unfold Work at h ⊢
  iintro ⟨Hg, H2, H4, H5, H6, H7, H8, H11⟩
  iapply (read_step c arg2 a2 (hl := View.loadsAt_rect (View.loads_smem_one hp h1)) (k := fun f => k (f (Shape.Idx.first (h1.symm ▸ Nat.one_pos))))) $$ H2
  iintro H2
  iapply h
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexact H11

/-- A load of one channel's plane. -/
theorem plane_step {rem : sProp 𝕄} {v : BitVec 32} (hv : v.toNat < 96) {off : Fin 3 → ℕ} {inb : ∀ a, off a + S1x224x224.size a ≤ S96x224x224.size a}
    {hl : (sM).view.LoadsAt (Rect.unit (s := S96x224x224) off S1x224x224.size inb).toLoadRect} (ho : off = ![v.toNat, 0, 0]) (n : ℕ)
    {k : (S1x224x224.Idx → Elt F .f32) → Prog (TpuEff nD τ sig (Elt F) Λ₀ .tc) α} {Q : α → sProp 𝕄}
    (h : Work c i a2 a4 a5 a6 a7 g arg2 arg4 arg5 arg6 arg7 arg8 rem n
      ⊢ wp frame (wpE (defs₀ (F := F)) 𝒱 (c : Thread nD τ) none) Set.univ (k (planeOf g v)) Q) :
    Work c i a2 a4 a5 a6 a7 g arg2 arg4 arg5 arg6 arg7 arg8 rem n
      ⊢ wp frame (wpE (defs₀ (F := F)) 𝒱 (c : Thread nD τ) none) Set.univ (Prog.lift (.load sM (Rect.unit (s := S96x224x224) off S1x224x224.size inb).toLoadRect hl) >>= k) Q := by
  have hw : (fun x => g ((Rect.unit (s := S96x224x224) off S1x224x224.size inb).emb x)) = planeOf g v := by
    subst ho
    funext x
    unfold planeOf
    congr 1
    have h0 : (x 0).val = 0 := by have := (x 0).isLt; exact Nat.lt_one_iff.mp this
    funext a; refine Fin.ext ?_; fin_cases a
    · show v.toNat + 1 * (x 0).val = v.toNat % 96
      rw [Nat.mod_eq_of_lt hv]
      omega
    · show 0 + 1 * (x 1).val = (x 1).val
      omega
    · show 0 + 1 * (x 2).val = (x 2).val
      omega
  rw [← hw] at h
  unfold Work at h ⊢
  iintro ⟨Hg, H2, H4, H5, H6, H7, H8, H11⟩
  iapply (read_step c sM g (hl := hl) (k := k)) $$ Hg
  iintro Hg
  iapply h
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexact H11

/-- A load of the leaves' scratch whose value is not used. -/
theorem peek_step {rem : sProp 𝕄} {r : Rect S8x222x222} {hl : (pM).view.LoadsAt r.toLoadRect} (n : ℕ)
    {k : (r.toLoadRect.shape.Idx → Elt F .f32) → Prog (TpuEff nD τ sig (Elt F) Λ₀ .tc) α} {Q : α → sProp 𝕄}
    (h : ∀ v, Work c i a2 a4 a5 a6 a7 g arg2 arg4 arg5 arg6 arg7 arg8 rem n
      ⊢ wp frame (wpE (defs₀ (F := F)) 𝒱 (c : Thread nD τ) none) Set.univ (k v) Q) :
    Work c i a2 a4 a5 a6 a7 g arg2 arg4 arg5 arg6 arg7 arg8 rem n
      ⊢ wp frame (wpE (defs₀ (F := F)) 𝒱 (c : Thread nD τ) none) Set.univ (Prog.lift (.load pM r.toLoadRect hl) >>= k) Q := by
  unfold Work at h ⊢
  iintro ⟨Hg, H2, H4, H5, H6, H7, H8, %P, %hP, H11⟩
  iapply (read_step c pM P (hl := hl) (k := k)) $$ H11
  iintro H11
  iapply (h _)
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexists P
  isplitr; · ipureintro; exact hP
  iexact H11

/-- The load of all the leaves. -/
theorem leaves_step {rem : sProp 𝕄} {hl : (pM).view.LoadsAt (Rect.unit (s := S8x222x222) ![0, 0, 0] S8x222x222.size inb_S8x222x222_S8x222x222_0_0_0).toLoadRect}
    {k : (S8x222x222.Idx → Elt F .f32) → Prog (TpuEff nD τ sig (Elt F) Λ₀ .tc) α} {Q : α → sProp 𝕄}
    (h : Work c i a2 a4 a5 a6 a7 g arg2 arg4 arg5 arg6 arg7 arg8 rem 8
      ⊢ wp frame (wpE (defs₀ (F := F)) 𝒱 (c : Thread nD τ) none) Set.univ (k (leaves i a2 a4 g)) Q) :
    Work c i a2 a4 a5 a6 a7 g arg2 arg4 arg5 arg6 arg7 arg8 rem 8
      ⊢ wp frame (wpE (defs₀ (F := F)) 𝒱 (c : Thread nD τ) none) Set.univ
        (Prog.lift (.load pM (Rect.unit (s := S8x222x222) ![0, 0, 0] S8x222x222.size inb_S8x222x222_S8x222x222_0_0_0).toLoadRect hl) >>= k) Q := by
  unfold Work at h ⊢
  iintro ⟨Hg, H2, H4, H5, H6, H7, H8, %P, %hP, H11⟩
  have hall : (fun x => P ((Rect.unit (s := S8x222x222) ![0, 0, 0] S8x222x222.size inb_S8x222x222_S8x222x222_0_0_0).emb x)) = leaves i a2 a4 g := by
    rw [← leavesIn_all i a2 a4 g hP]
    funext x
    congr 1
    funext a; refine Fin.ext ?_; fin_cases a
    · show 0 + 1 * (x 0).val = (x 0).val
      omega
    · show 0 + 1 * (x 1).val = (x 1).val
      omega
    · show 0 + 1 * (x 2).val = (x 2).val
      omega
  rw [← hall] at h
  iapply (read_step c pM P (hl := hl) (k := k)) $$ H11
  iintro H11
  iapply h
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexists P
  isplitr; · ipureintro; exact hP
  iexact H11

theorem leaf_inb (n : Fin 8) : ∀ a, (![n.val, 0, 0] : Fin 3 → ℕ) a + S1x222x222.size a ≤ S8x222x222.size a := by revert n; decide

/-- Writing leaf `n` over its plane adds it to the leaves held. -/
theorem leavesIn_next (n : ℕ) (hn : n < 8) {inb : ∀ a, (![n, 0, 0] : Fin 3 → ℕ) a + S1x222x222.size a ≤ S8x222x222.size a}
    (f : (pM).view.ty.Contents (Elt F)) (hP : LeavesIn i a2 a4 g n ((pM).view.read (Elt F) f)) :
    LeavesIn i a2 a4 g (n + 1) ((pM).view.read (Elt F)
      (((pM).access (Rect.unit (s := S8x222x222) ![n, 0, 0] S1x222x222.size inb)).write (Elt F) f (leaf i a2 a4 g ⟨n, hn⟩) Finset.univ)) := by
  intro l y hl
  by_cases hln : l.val = n
  · have he : (ix3 l (y 1) (y 2) : S8x222x222.Idx) = (Rect.unit (s := S8x222x222) ![n, 0, 0] S1x222x222.size inb).emb y := by
      funext a; refine Fin.ext ?_
      have h0 : (y 0).val = 0 := by have := (y 0).isLt; exact Nat.lt_one_iff.mp this
      fin_cases a
      · show l.val = n + 1 * (y 0).val
        omega
      · show (y 1).val = 0 + 1 * (y 1).val
        omega
      · show (y 2).val = 0 + 1 * (y 2).val
        omega
    rw [he]
    have hl' : l = ⟨n, hn⟩ := Fin.ext hln
    rw [hl']
    exact View.read_slice_write_emb (v := (pM).view) (Rect.unit (s := S8x222x222) ![n, 0, 0] S1x222x222.size inb) f _ (Finset.mem_univ y)
  · have hne : (ix3 l (y 1) (y 2) : S8x222x222.Idx) ∉ Finset.univ.map (Rect.unit (s := S8x222x222) ![n, 0, 0] S1x222x222.size inb).emb := by
      intro hm'
      obtain ⟨x, -, hx'⟩ := Finset.mem_map.mp hm'
      have h0 : (x 0).val = 0 := by have := (x 0).isLt; exact Nat.lt_one_iff.mp this
      have hv : n + 1 * (x 0).val = l.val := congrArg (fun z : S8x222x222.Idx => (z 0).val) hx'
      omega
    exact (View.read_slice_write_of_not_mem (v := (pM).view) (Rect.unit (s := S8x222x222) ![n, 0, 0] S1x222x222.size inb) f _ _ hne).trans (hP l y (by omega))

/-- The store of leaf `n`. -/
theorem leaf_step {rem : sProp 𝕄} (n : ℕ) (hn : n < 8) {w : FVec F S1x222x222 .f32} (hw : w = leaf i a2 a4 g ⟨n, hn⟩)
    {inb : ∀ a, (![n, 0, 0] : Fin 3 → ℕ) a + S1x222x222.size a ≤ S8x222x222.size a}
    {hx : ((pM).access (Rect.unit (s := S8x222x222) ![n, 0, 0] S1x222x222.size inb)).Stores Finset.univ}
    {hm : Finset.univ = Finset.univ ∨ ∀ a, (Rect.unit (s := S8x222x222) ![n, 0, 0] S1x222x222.size inb).stride a = 1}
    {k : PUnit → Prog (TpuEff nD τ sig (Elt F) Λ₀ .tc) α} {Q : α → sProp 𝕄}
    (h : Work c i a2 a4 a5 a6 a7 g arg2 arg4 arg5 arg6 arg7 arg8 rem (n + 1)
      ⊢ wp frame (wpE (defs₀ (F := F)) 𝒱 (c : Thread nD τ) none) Set.univ (k ⟨⟩) Q) :
    Work c i a2 a4 a5 a6 a7 g arg2 arg4 arg5 arg6 arg7 arg8 rem n
      ⊢ wp frame (wpE (defs₀ (F := F)) 𝒱 (c : Thread nD τ) none) Set.univ
        (Prog.lift (.store pM (Rect.unit (s := S8x222x222) ![n, 0, 0] S1x222x222.size inb) w Finset.univ hx hm) >>= k) Q := by
  subst hw
  unfold Work at h ⊢
  unfold owns at h ⊢
  iintro ⟨Hg, H2, H4, H5, H6, H7, H8, %P, %hP, %f, %hf, H11⟩
  iapply (wp_store 𝒱 (c : Thread nD τ) none Set.univ (m := pM) (hx := hx) (hm := hm) (k := k) (f := f) (S := (pM).view.set)
    ((View.setOn_subset_set _ _).trans (View.set_slice_subset _ _))) $$ H11
  iintro H11
  iapply h
  isplitl [Hg]; · iexact Hg
  isplitl [H2]; · iexact H2
  isplitl [H4]; · iexact H4
  isplitl [H5]; · iexact H5
  isplitl [H6]; · iexact H6
  isplitl [H7]; · iexact H7
  isplitl [H8]; · iexact H8
  iexists _
  isplitr
  swap
  · iexists _
    isplitr
    swap
    · iexact H11
    ipureintro; rfl
  ipureintro
  exact leavesIn_next i a2 a4 g n hn f (by rw [hf]; exact hP)

end Cert.KernelIdeal.Hand

end
-- ==== Proof.Walk.lean ====
/- The body of the kernel at one grid point, walked from its start to its store. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (Pipeline.UD sig nD τ) ℕ

variable (c : Dev nD) (i : grid0.Coords)
variable (a2 : Vec F S2x16x8x3 .i32) (a4 : Vec F S8x16x4 .f32) (a5 : Vec F S4x16x4 .f32) (a6 : Vec F S2x16x4 .f32) (a7 : Vec F S1x16x4 .f32)
  (g : Vec F S96x224x224 .f32)
variable (arg2 : Memref sig .tc .smem S2x16x8x3 .i32) (arg4 : Memref sig .tc .vmem S8x16x4 .f32)
  (arg5 : Memref sig .tc .vmem S4x16x4 .f32) (arg6 : Memref sig .tc .vmem S2x16x4 .f32)
  (arg7 : Memref sig .tc .vmem S1x16x4 .f32) (arg8 : Memref sig .tc .vmem S1x1x111x111 .f32)

theorem word_at (r : Fin 2) (l : Fin 8) (t : Fin 3) :
    (![r.val, (Scalar.indexCast (BitVec.ofNat 32 (i 1).val)).toNat, l.val, t.val] : Fin 4 → ℕ) = ![r.val, (i 1).val, l.val, t.val] := by
  have h : (i 1).val < 16 := (i 1).isLt
  have e : (Scalar.indexCast (BitVec.ofNat 32 (i 1).val)).toNat = (i 1).val := by
    show (BitVec.ofNat 32 (i 1).val).toNat = (i 1).val
    rw [BitVec.toNat_ofNat]; exact Nat.mod_eq_of_lt (by omega)
  rw [e]

/-- What the body leaves. -/
def Left (rem : sProp 𝕄) : sProp 𝕄 :=
  iprop(owns (c : Thread nD τ) sM fullShare g ∗ owns (c : Thread nD τ) arg2 fullShare a2 ∗ owns (c : Thread nD τ) arg4 fullShare a4
    ∗ owns (c : Thread nD τ) arg5 fullShare a5 ∗ owns (c : Thread nD τ) arg6 fullShare a6 ∗ owns (c : Thread nD τ) arg7 fullShare a7
    ∗ owns (c : Thread nD τ) arg8 fullShare (stored i a2 a4 a5 a6 a7 g) ∗ rem ∗ ∃ P, owns (c : Thread nD τ) pM fullShare P)

variable {𝒱 : Variants}

/-- The store of the result's block, the whole of its window. -/
theorem out_step {rem : sProp 𝕄} {hl : arg8.view.LoadsAt (Rect.unit (s := S1x1x111x111) ![0, 0, 0, 0] S1x1x111x111.size inb_S1x1x111x111_S1x1x111x111_0_0_0_0).toLoadRect}
    {w : Vec F S1x1x111x111 .f32} (hw : w = stored i a2 a4 a5 a6 a7 g)
    {hx : (arg8.access (Rect.unit (s := S1x1x111x111) ![0, 0, 0, 0] S1x1x111x111.size inb_S1x1x111x111_S1x1x111x111_0_0_0_0)).Stores Finset.univ}
    {hm : Finset.univ = Finset.univ ∨ ∀ a, (Rect.unit (s := S1x1x111x111) ![0, 0, 0, 0] S1x1x111x111.size inb_S1x1x111x111_S1x1x111x111_0_0_0_0).stride a = 1} :
    Work c i a2 a4 a5 a6 a7 g arg2 arg4 arg5 arg6 arg7 arg8 rem 8
      ⊢ wp frame (wpE (defs₀ (F := F)) 𝒱 (c : Thread nD τ) none) Set.univ
        (Prog.lift (.load arg8 (Rect.unit (s := S1x1x111x111) ![0, 0, 0, 0] S1x1x111x111.size inb_S1x1x111x111_S1x1x111x111_0_0_0_0).toLoadRect hl)
          >>= fun _ => Prog.lift (.store arg8 (Rect.unit (s := S1x1x111x111) ![0, 0, 0, 0] S1x1x111x111.size inb_S1x1x111x111_S1x1x111x111_0_0_0_0) w Finset.univ hx hm)
          >>= fun _ => pure PUnit.unit)
        (fun _ => Left c i a2 a4 a5 a6 a7 g arg2 arg4 arg5 arg6 arg7 arg8 rem) := by
  subst hw
  unfold Work Left
  iintro ⟨Hg, H2, H4, H5, H6, H7, ⟨⟨%d, H8⟩, HR⟩, %P, %hP, H11⟩
  iapply (read_step c arg8 d (hl := hl)) $$ H8
  iintro H8
  have hread : ∀ f : arg8.view.ty.Contents (Elt F), arg8.view.read (Elt F)
      ((arg8.access (Rect.unit (s := S1x1x111x111) ![0, 0, 0, 0] S1x1x111x111.size inb_S1x1x111x111_S1x1x111x111_0_0_0_0)).write (Elt F) f (stored i a2 a4 a5 a6 a7 g) Finset.univ)
      = stored i a2 a4 a5 a6 a7 g := by
    intro f; funext y
    have he : y = (Rect.unit (s := S1x1x111x111) ![0, 0, 0, 0] S1x1x111x111.size inb_S1x1x111x111_S1x1x111x111_0_0_0_0).emb y := by
      funext a; refine Fin.ext ?_; fin_cases a
      · show (y 0).val = 0 + 1 * (y 0).val
        omega
      · show (y 1).val = 0 + 1 * (y 1).val
        omega
      · show (y 2).val = 0 + 1 * (y 2).val
        omega
      · show (y 3).val = 0 + 1 * (y 3).val
        omega
    conv_lhs => rw [he]
    exact View.read_slice_write_emb (v := arg8.view) (Rect.unit (s := S1x1x111x111) ![0, 0, 0, 0] S1x1x111x111.size inb_S1x1x111x111_S1x1x111x111_0_0_0_0) f _ (Finset.mem_univ y)
  unfold owns
  icases H8 with ⟨%f, %hf, H8⟩
  iapply (wp_store 𝒱 (c : Thread nD τ) none Set.univ (m := arg8) (hx := hx) (hm := hm) (k := fun _ => pure PUnit.unit) (f := f) (S := arg8.view.set)
    ((View.setOn_subset_set _ _).trans (View.set_slice_subset _ _))) $$ H8
  iintro H8
  iapply (le_wp_ret _ _ _ PUnit.unit _)
  isplitl [Hg]; · iexact Hg
  isplitl [H2]; · iexact H2
  isplitl [H4]; · iexact H4
  isplitl [H5]; · iexact H5
  isplitl [H6]; · iexact H6
  isplitl [H7]; · iexact H7
  isplitl [H8]
  · iexists _
    isplitr; swap; · iexact H8
    ipureintro; exact hread f
  isplitl [HR]; · iexact HR
  iexists P
  iexact H11

theorem bind_step {α β : Type} {P : sProp 𝕄} {Q' : α → sProp 𝕄} {Q : β → sProp 𝕄} {x : Prog (TpuEff nD τ sig (Elt F) Λ₀ .tc) α}
    {k : α → Prog (TpuEff nD τ sig (Elt F) Λ₀ .tc) β} {𝒱 : Variants}
    (h : P ⊢ wp frame (wpE (defs₀ (F := F)) 𝒱 (c : Thread nD τ) none) Set.univ x Q')
    (hk : ∀ a, Q' a ⊢ wp frame (wpE (defs₀ (F := F)) 𝒱 (c : Thread nD τ) none) Set.univ (k a) Q) :
    P ⊢ wp frame (wpE (defs₀ (F := F)) 𝒱 (c : Thread nD τ) none) Set.univ (x >>= k) Q := by
  rw [wp_bind]; exact h.trans (wp_mono _ _ _ hk)

variable (X : XBuf (F := F) c) (f : SBuf (F := F) c)

/-- What the steps after the copies do not touch. -/
def Aside : sProp 𝕄 :=
  iprop(((c : Thread nD τ).loc main_call0_v0 ↦{fullShare} X) ∗ Pipeline.ownSems0 osem0 c ∗ ∃ W, owes (c : Thread nD τ) 0 W)

/-- What the body starts from. -/
def Start : sProp 𝕄 :=
  iprop(owns (c : Thread nD τ) arg2 fullShare a2 ∗ owns (c : Thread nD τ) arg4 fullShare a4
    ∗ owns (c : Thread nD τ) arg5 fullShare a5 ∗ owns (c : Thread nD τ) arg6 fullShare a6 ∗ owns (c : Thread nD τ) arg7 fullShare a7
    ∗ (∃ d, owns (c : Thread nD τ) arg8 fullShare d) ∗ ∃ P, owns (c : Thread nD τ) pM fullShare P)

theorem start_work (g : SBuf (F := F) c) : iprop(held c X g ∗ Start c a2 a4 a5 a6 a7 arg2 arg4 arg5 arg6 arg7 arg8)
    ⊢ Work c i a2 a4 a5 a6 a7 g arg2 arg4 arg5 arg6 arg7 arg8 (Aside c X) 0 := by
  unfold held Start Work Aside
  iintro ⟨⟨Hg, Hx, Hq, HW⟩, H2, H4, H5, H6, H7, H8, %P, H11⟩
  isplitl [Hg]
  · unfold owns
    iexists g
    isplitr; · ipureintro; rfl
    rw [View.set_whole]
    iexact Hg
  isplitl [H2]; · iexact H2
  isplitl [H4]; · iexact H4
  isplitl [H5]; · iexact H5
  isplitl [H6]; · iexact H6
  isplitl [H7]; · iexact H7
  isplitl [H8 Hx Hq HW]
  · isplitl [H8]; · iexact H8
    isplitl [Hx]; · iexact Hx
    isplitl [Hq]; · iexact Hq
    iexact HW
  iexists P
  isplitr; · ipureintro; intro l y h; exact absurd h (Nat.not_lt_zero _)
  iexact H11

/-- A branch whose two arms go on the same way is the branch, then that way. -/
theorem join_step {P : sProp 𝕄} {α : Type} {𝒱 : Variants} {d : Prop} {hdec : Decidable d} {B : d → Prog (TpuEff nD τ sig (Elt F) Λ₀ .tc) PUnit}
    {C : d → Prog (TpuEff nD τ sig (Elt F) Λ₀ .tc) PUnit} {k : PUnit → Prog (TpuEff nD τ sig (Elt F) Λ₀ .tc) α} {Q : α → sProp 𝕄}
    (h : P ⊢ wp frame (wpE (defs₀ (F := F)) 𝒱 (c : Thread nD τ) none) Set.univ
      ((if hd : d then (B hd >>= fun _ => C hd >>= fun _ => pure PUnit.unit) else pure PUnit.unit) >>= k) Q) :
    P ⊢ wp frame (wpE (defs₀ (F := F)) 𝒱 (c : Thread nD τ) none) Set.univ
      (if hd : d then (B hd >>= fun _ => C hd >>= fun _ => k PUnit.unit) else k PUnit.unit) Q := by
  by_cases hd : d
  · rw [dif_pos hd]; rw [dif_pos hd] at h; simpa only [bind_assoc, pure_bind] using h
  · rw [dif_neg hd]; rw [dif_neg hd] at h; exact h

/-- The first part: the copies' branch, the leaves' weights, the first words and the first plane. -/
theorem part48_run (harg2 : arg2.IsWhole) (harg4 : arg4.IsWhole) (harg5 : arg5.IsWhole) (harg6 : arg6.IsWhole) (harg7 : arg7.IsWhole) (harg8 : arg8.IsWhole)
    (harg3 : (xM).IsWhole) (harg9 : (sM).IsWhole) (harg11 : (pM).IsWhole)
    (hb : ∀ (r : Fin 2) (l : Fin 8), (word i a2 r l 2).toNat < 96)
    {Q : (Σ' (arg1 : BitVec 32) (v18 : FVec F S8x1x1 .f32) (v25 : FVec F S8x1x1 .f32) (v26 : FVec F S8x1x1 .f32) (v29 : FVec F S8x1x1 .f32) (v31 : Elt F .i32) (v33 : Elt F .i32), Vec F S1x224x224 .f32) → sProp 𝕄}
    (h : Work c i a2 a4 a5 a6 a7 (stagedBy c i X f) arg2 arg4 arg5 arg6 arg7 arg8 (Aside c X) 0
      ⊢ Q ⟨BitVec.ofNat 32 (i 1).val, k0_pay3 (leafWeights i a4), k0_pay6 (leafWeights i a4), k0_pay7 (leafWeights i a4), k0_pay8 (leafWeights i a4),
          word i a2 0 0 0, word i a2 0 0 1, planeOf (stagedBy c i X f) (word i a2 0 0 2)⟩) :
    iprop(held c X f ∗ Start c a2 a4 a5 a6 a7 arg2 arg4 arg5 arg6 arg7 arg8)
      ⊢ wp frame (wpE (defs₀ (F := F)) 𝒱 (c : Thread nD τ) none) Set.univ
          (k0_part48 i arg2 harg2 xM harg3 arg4 harg4 arg5 harg5 arg6 harg6 arg7 harg7 arg8 harg8 sM harg9 cc0_scratch1 pM harg11) Q := by
    rw [k0_part48_eq_skeleton]; unfold k0_part48_skel
    extract_lets
    refine join_step (F := F) c ?_
    refine bind_step c ((sep_mono_left (branch_run c i X f arg2 harg2 arg4 harg4 arg5 harg5 arg6 harg6 arg7 harg7 arg8 harg8 pM harg11 harg3 harg9 _ (𝒱 := 𝒱))).trans
      (wp_frame_r frame _ _)) fun _ => ?_
    refine (start_work c i a2 a4 a5 a6 a7 arg2 arg4 arg5 arg6 arg7 arg8 X _).trans ?_
    revert h
    generalize stagedBy c i X f = g
    generalize Aside c X = rem
    intro h
    refine weight4_step c i a2 a4 a5 a6 a7 g arg2 arg4 arg5 arg6 arg7 arg8 _ ?_
    refine word_step c i a2 a4 a5 a6 a7 g arg2 arg4 arg5 arg6 arg7 arg8 0 0 0 (word_at i 0 0 0) _ ?_
    refine word_step c i a2 a4 a5 a6 a7 g arg2 arg4 arg5 arg6 arg7 arg8 0 0 1 (word_at i 0 0 1) _ ?_
    refine word_step c i a2 a4 a5 a6 a7 g arg2 arg4 arg5 arg6 arg7 arg8 0 0 2 (word_at i 0 0 2) _ ?_
    refine assume_step c (named_chk (hb 0 0)) ?_
    refine plane_step c i a2 a4 a5 a6 a7 g arg2 arg4 arg5 arg6 arg7 arg8 (hb 0 0) rfl _ ?_
    exact ret_step c h

set_option maxHeartbeats 16000000 in
/-- The body: the copies' branch, the leaves one by one, the levels above them, the store. -/
theorem body_run (harg2 : arg2.IsWhole) (harg4 : arg4.IsWhole) (harg5 : arg5.IsWhole) (harg6 : arg6.IsWhole) (harg7 : arg7.IsWhole) (harg8 : arg8.IsWhole)
    (harg3 : (xM).IsWhole) (harg9 : (sM).IsWhole) (harg11 : (pM).IsWhole)
    (hb : ∀ (r : Fin 2) (l : Fin 8), (word i a2 r l 2).toNat < 96) :
    iprop(held c X f ∗ Start c a2 a4 a5 a6 a7 arg2 arg4 arg5 arg6 arg7 arg8)
      ⊢ wp frame (wpE (defs₀ (F := F)) 𝒱 (c : Thread nD τ) none) Set.univ
          (cc0__kern i arg2 harg2 xM harg3 arg4 harg4 arg5 harg5 arg6 harg6 arg7 harg7 arg8 harg8 sM harg9 cc0_scratch1 pM harg11)
          (fun _ => Left c i a2 a4 a5 a6 a7 (stagedBy c i X f) arg2 arg4 arg5 arg6 arg7 arg8 (Aside c X)) := by
    simp only [cc0__kern_eq_skeleton]; unfold cc0__kern_skel
    rw [wp_bind]
    refine part48_run c i a2 a4 a5 a6 a7 arg2 arg4 arg5 arg6 arg7 arg8 X f harg2 harg4 harg5 harg6 harg7 harg8 harg3 harg9 harg11 hb ?_
    generalize stagedBy c i X f = g
    generalize Aside c X = rem
    rw [wp_bind, k0_part49_eq_skeleton]; unfold k0_part49_skel
    refine word_step c i a2 a4 a5 a6 a7 g arg2 arg4 arg5 arg6 arg7 arg8 1 0 0 (word_at i 1 0 0) _ ?_
    refine word_step c i a2 a4 a5 a6 a7 g arg2 arg4 arg5 arg6 arg7 arg8 1 0 1 (word_at i 1 0 1) _ ?_
    refine word_step c i a2 a4 a5 a6 a7 g arg2 arg4 arg5 arg6 arg7 arg8 1 0 2 (word_at i 1 0 2) _ ?_
    refine assume_step c (named_chk (hb 1 0)) ?_
    refine plane_step c i a2 a4 a5 a6 a7 g arg2 arg4 arg5 arg6 arg7 arg8 (hb 1 0) rfl _ ?_
    refine ret_step c ?_
    rw [wp_bind, k0_part50_eq_skeleton]; unfold k0_part50_skel
    refine peek_step c i a2 a4 a5 a6 a7 g arg2 arg4 arg5 arg6 arg7 arg8 _ fun _ => ?_
    refine leaf_step c i a2 a4 a5 a6 a7 g arg2 arg4 arg5 arg6 arg7 arg8 0 (by decide) rfl ?_
    refine word_step c i a2 a4 a5 a6 a7 g arg2 arg4 arg5 arg6 arg7 arg8 0 1 0 (word_at i 0 1 0) _ ?_
    refine word_step c i a2 a4 a5 a6 a7 g arg2 arg4 arg5 arg6 arg7 arg8 0 1 1 (word_at i 0 1 1) _ ?_
    refine word_step c i a2 a4 a5 a6 a7 g arg2 arg4 arg5 arg6 arg7 arg8 0 1 2 (word_at i 0 1 2) _ ?_
    refine assume_step c (named_chk (hb 0 1)) ?_
    refine plane_step c i a2 a4 a5 a6 a7 g arg2 arg4 arg5 arg6 arg7 arg8 (hb 0 1) rfl _ ?_
    refine ret_step c ?_
    rw [wp_bind, k0_part51_eq_skeleton]; unfold k0_part51_skel
    refine word_step c i a2 a4 a5 a6 a7 g arg2 arg4 arg5 arg6 arg7 arg8 1 1 0 (word_at i 1 1 0) _ ?_
    refine word_step c i a2 a4 a5 a6 a7 g arg2 arg4 arg5 arg6 arg7 arg8 1 1 1 (word_at i 1 1 1) _ ?_
    refine word_step c i a2 a4 a5 a6 a7 g arg2 arg4 arg5 arg6 arg7 arg8 1 1 2 (word_at i 1 1 2) _ ?_
    refine assume_step c (named_chk (hb 1 1)) ?_
    refine plane_step c i a2 a4 a5 a6 a7 g arg2 arg4 arg5 arg6 arg7 arg8 (hb 1 1) rfl _ ?_
    refine ret_step c ?_
    rw [wp_bind, k0_part52_eq_skeleton]; unfold k0_part52_skel
    refine peek_step c i a2 a4 a5 a6 a7 g arg2 arg4 arg5 arg6 arg7 arg8 _ fun _ => ?_
    refine leaf_step c i a2 a4 a5 a6 a7 g arg2 arg4 arg5 arg6 arg7 arg8 1 (by decide) rfl ?_
    refine word_step c i a2 a4 a5 a6 a7 g arg2 arg4 arg5 arg6 arg7 arg8 0 2 0 (word_at i 0 2 0) _ ?_
    refine word_step c i a2 a4 a5 a6 a7 g arg2 arg4 arg5 arg6 arg7 arg8 0 2 1 (word_at i 0 2 1) _ ?_
    refine word_step c i a2 a4 a5 a6 a7 g arg2 arg4 arg5 arg6 arg7 arg8 0 2 2 (word_at i 0 2 2) _ ?_
    refine assume_step c (named_chk (hb 0 2)) ?_
    refine plane_step c i a2 a4 a5 a6 a7 g arg2 arg4 arg5 arg6 arg7 arg8 (hb 0 2) rfl _ ?_
    refine word_step c i a2 a4 a5 a6 a7 g arg2 arg4 arg5 arg6 arg7 arg8 1 2 0 (word_at i 1 2 0) _ ?_
    refine word_step c i a2 a4 a5 a6 a7 g arg2 arg4 arg5 arg6 arg7 arg8 1 2 1 (word_at i 1 2 1) _ ?_
    refine word_step c i a2 a4 a5 a6 a7 g arg2 arg4 arg5 arg6 arg7 arg8 1 2 2 (word_at i 1 2 2) _ ?_
    refine ret_step c ?_
    rw [wp_bind, k0_part53_eq_skeleton]; unfold k0_part53_skel
    refine assume_step c (named_chk (hb 1 2)) ?_
    refine plane_step c i a2 a4 a5 a6 a7 g arg2 arg4 arg5 arg6 arg7 arg8 (hb 1 2) rfl _ ?_
    refine peek_step c i a2 a4 a5 a6 a7 g arg2 arg4 arg5 arg6 arg7 arg8 _ fun _ => ?_
    refine leaf_step c i a2 a4 a5 a6 a7 g arg2 arg4 arg5 arg6 arg7 arg8 2 (by decide) rfl ?_
    refine word_step c i a2 a4 a5 a6 a7 g arg2 arg4 arg5 arg6 arg7 arg8 0 3 0 (word_at i 0 3 0) _ ?_
    refine word_step c i a2 a4 a5 a6 a7 g arg2 arg4 arg5 arg6 arg7 arg8 0 3 1 (word_at i 0 3 1) _ ?_
    refine ret_step c ?_
    rw [wp_bind, k0_part54_eq_skeleton]; unfold k0_part54_skel
    refine word_step c i a2 a4 a5 a6 a7 g arg2 arg4 arg5 arg6 arg7 arg8 0 3 2 (word_at i 0 3 2) _ ?_
    refine assume_step c (named_chk (hb 0 3)) ?_
    refine plane_step c i a2 a4 a5 a6 a7 g arg2 arg4 arg5 arg6 arg7 arg8 (hb 0 3) rfl _ ?_
    refine word_step c i a2 a4 a5 a6 a7 g arg2 arg4 arg5 arg6 arg7 arg8 1 3 0 (word_at i 1 3 0) _ ?_
    refine word_step c i a2 a4 a5 a6 a7 g arg2 arg4 arg5 arg6 arg7 arg8 1 3 1 (word_at i 1 3 1) _ ?_
    refine word_step c i a2 a4 a5 a6 a7 g arg2 arg4 arg5 arg6 arg7 arg8 1 3 2 (word_at i 1 3 2) _ ?_
    refine assume_step c (named_chk (hb 1 3)) ?_
    refine plane_step c i a2 a4 a5 a6 a7 g arg2 arg4 arg5 arg6 arg7 arg8 (hb 1 3) rfl _ ?_
    refine ret_step c ?_
    rw [wp_bind, k0_part55_eq_skeleton]; unfold k0_part55_skel
    refine peek_step c i a2 a4 a5 a6 a7 g arg2 arg4 arg5 arg6 arg7 arg8 _ fun _ => ?_
    refine leaf_step c i a2 a4 a5 a6 a7 g arg2 arg4 arg5 arg6 arg7 arg8 3 (by decide) rfl ?_
    refine word_step c i a2 a4 a5 a6 a7 g arg2 arg4 arg5 arg6 arg7 arg8 0 4 0 (word_at i 0 4 0) _ ?_
    refine word_step c i a2 a4 a5 a6 a7 g arg2 arg4 arg5 arg6 arg7 arg8 0 4 1 (word_at i 0 4 1) _ ?_
    refine word_step c i a2 a4 a5 a6 a7 g arg2 arg4 arg5 arg6 arg7 arg8 0 4 2 (word_at i 0 4 2) _ ?_
    refine assume_step c (named_chk (hb 0 4)) ?_
    refine plane_step c i a2 a4 a5 a6 a7 g arg2 arg4 arg5 arg6 arg7 arg8 (hb 0 4) rfl _ ?_
    refine ret_step c ?_
    rw [wp_bind, k0_part56_eq_skeleton]; unfold k0_part56_skel
    refine word_step c i a2 a4 a5 a6 a7 g arg2 arg4 arg5 arg6 arg7 arg8 1 4 0 (word_at i 1 4 0) _ ?_
    refine word_step c i a2 a4 a5 a6 a7 g arg2 arg4 arg5 arg6 arg7 arg8 1 4 1 (word_at i 1 4 1) _ ?_
    refine word_step c i a2 a4 a5 a6 a7 g arg2 arg4 arg5 arg6 arg7 arg8 1 4 2 (word_at i 1 4 2) _ ?_
    refine assume_step c (named_chk (hb 1 4)) ?_
    refine plane_step c i a2 a4 a5 a6 a7 g arg2 arg4 arg5 arg6 arg7 arg8 (hb 1 4) rfl _ ?_
    refine ret_step c ?_
    rw [wp_bind, k0_part57_eq_skeleton]; unfold k0_part57_skel
    refine peek_step c i a2 a4 a5 a6 a7 g arg2 arg4 arg5 arg6 arg7 arg8 _ fun _ => ?_
    refine leaf_step c i a2 a4 a5 a6 a7 g arg2 arg4 arg5 arg6 arg7 arg8 4 (by decide) rfl ?_
    refine word_step c i a2 a4 a5 a6 a7 g arg2 arg4 arg5 arg6 arg7 arg8 0 5 0 (word_at i 0 5 0) _ ?_
    refine word_step c i a2 a4 a5 a6 a7 g arg2 arg4 arg5 arg6 arg7 arg8 0 5 1 (word_at i 0 5 1) _ ?_
    refine word_step c i a2 a4 a5 a6 a7 g arg2 arg4 arg5 arg6 arg7 arg8 0 5 2 (word_at i 0 5 2) _ ?_
    refine assume_step c (named_chk (hb 0 5)) ?_
    refine plane_step c i a2 a4 a5 a6 a7 g arg2 arg4 arg5 arg6 arg7 arg8 (hb 0 5) rfl _ ?_
    refine word_step c i a2 a4 a5 a6 a7 g arg2 arg4 arg5 arg6 arg7 arg8 1 5 0 (word_at i 1 5 0) _ ?_
    refine ret_step c ?_
    rw [wp_bind, k0_part58_eq_skeleton]; unfold k0_part58_skel
    refine word_step c i a2 a4 a5 a6 a7 g arg2 arg4 arg5 arg6 arg7 arg8 1 5 1 (word_at i 1 5 1) _ ?_
    refine word_step c i a2 a4 a5 a6 a7 g arg2 arg4 arg5 arg6 arg7 arg8 1 5 2 (word_at i 1 5 2) _ ?_
    refine assume_step c (named_chk (hb 1 5)) ?_
    refine plane_step c i a2 a4 a5 a6 a7 g arg2 arg4 arg5 arg6 arg7 arg8 (hb 1 5) rfl _ ?_
    refine peek_step c i a2 a4 a5 a6 a7 g arg2 arg4 arg5 arg6 arg7 arg8 _ fun _ => ?_
    refine leaf_step c i a2 a4 a5 a6 a7 g arg2 arg4 arg5 arg6 arg7 arg8 5 (by decide) rfl ?_
    refine ret_step c ?_
    rw [wp_bind, k0_part59_eq_skeleton]; unfold k0_part59_skel
    refine word_step c i a2 a4 a5 a6 a7 g arg2 arg4 arg5 arg6 arg7 arg8 0 6 0 (word_at i 0 6 0) _ ?_
    refine word_step c i a2 a4 a5 a6 a7 g arg2 arg4 arg5 arg6 arg7 arg8 0 6 1 (word_at i 0 6 1) _ ?_
    refine word_step c i a2 a4 a5 a6 a7 g arg2 arg4 arg5 arg6 arg7 arg8 0 6 2 (word_at i 0 6 2) _ ?_
    refine assume_step c (named_chk (hb 0 6)) ?_
    refine plane_step c i a2 a4 a5 a6 a7 g arg2 arg4 arg5 arg6 arg7 arg8 (hb 0 6) rfl _ ?_
    refine word_step c i a2 a4 a5 a6 a7 g arg2 arg4 arg5 arg6 arg7 arg8 1 6 0 (word_at i 1 6 0) _ ?_
    refine word_step c i a2 a4 a5 a6 a7 g arg2 arg4 arg5 arg6 arg7 arg8 1 6 1 (word_at i 1 6 1) _ ?_
    refine word_step c i a2 a4 a5 a6 a7 g arg2 arg4 arg5 arg6 arg7 arg8 1 6 2 (word_at i 1 6 2) _ ?_
    refine assume_step c (named_chk (hb 1 6)) ?_
    refine plane_step c i a2 a4 a5 a6 a7 g arg2 arg4 arg5 arg6 arg7 arg8 (hb 1 6) rfl _ ?_
    refine ret_step c ?_
    rw [wp_bind, k0_part60_eq_skeleton]; unfold k0_part60_skel
    refine peek_step c i a2 a4 a5 a6 a7 g arg2 arg4 arg5 arg6 arg7 arg8 _ fun _ => ?_
    refine leaf_step c i a2 a4 a5 a6 a7 g arg2 arg4 arg5 arg6 arg7 arg8 6 (by decide) rfl ?_
    refine word_step c i a2 a4 a5 a6 a7 g arg2 arg4 arg5 arg6 arg7 arg8 0 7 0 (word_at i 0 7 0) _ ?_
    refine word_step c i a2 a4 a5 a6 a7 g arg2 arg4 arg5 arg6 arg7 arg8 0 7 1 (word_at i 0 7 1) _ ?_
    refine word_step c i a2 a4 a5 a6 a7 g arg2 arg4 arg5 arg6 arg7 arg8 0 7 2 (word_at i 0 7 2) _ ?_
    refine assume_step c (named_chk (hb 0 7)) ?_
    refine ret_step c ?_
    rw [wp_bind, k0_part61_eq_skeleton]; unfold k0_part61_skel
    refine plane_step c i a2 a4 a5 a6 a7 g arg2 arg4 arg5 arg6 arg7 arg8 (hb 0 7) rfl _ ?_
    refine word_step c i a2 a4 a5 a6 a7 g arg2 arg4 arg5 arg6 arg7 arg8 1 7 0 (word_at i 1 7 0) _ ?_
    refine word_step c i a2 a4 a5 a6 a7 g arg2 arg4 arg5 arg6 arg7 arg8 1 7 1 (word_at i 1 7 1) _ ?_
    refine word_step c i a2 a4 a5 a6 a7 g arg2 arg4 arg5 arg6 arg7 arg8 1 7 2 (word_at i 1 7 2) _ ?_
    refine assume_step c (named_chk (hb 1 7)) ?_
    refine plane_step c i a2 a4 a5 a6 a7 g arg2 arg4 arg5 arg6 arg7 arg8 (hb 1 7) rfl _ ?_
    refine ret_step c ?_
    rw [wp_bind, k0_part62_eq_skeleton]; unfold k0_part62_skel
    refine peek_step c i a2 a4 a5 a6 a7 g arg2 arg4 arg5 arg6 arg7 arg8 _ fun _ => ?_
    refine leaf_step c i a2 a4 a5 a6 a7 g arg2 arg4 arg5 arg6 arg7 arg8 7 (by decide) rfl ?_
    refine leaves_step c i a2 a4 a5 a6 a7 g arg2 arg4 arg5 arg6 arg7 arg8 ?_
    refine weight5_step c i a2 a4 a5 a6 a7 g arg2 arg4 arg5 arg6 arg7 arg8 _ ?_
    refine ret_step c ?_
    rw [wp_bind, k0_part63_eq_skeleton]; unfold k0_part63_skel
    refine weight6_step c i a2 a4 a5 a6 a7 g arg2 arg4 arg5 arg6 arg7 arg8 _ ?_
    refine ret_step c ?_
    rw [wp_bind, k0_part64_eq_skeleton]; unfold k0_part64_skel
    refine weight7_step c i a2 a4 a5 a6 a7 g arg2 arg4 arg5 arg6 arg7 arg8 _ ?_
    refine ret_step c ?_
    exact out_step c i a2 a4 a5 a6 a7 g arg2 arg4 arg5 arg6 arg7 arg8 rfl

end Cert.KernelIdeal.Hand

end
-- ==== Proof.Frame.lean ====
/- The grid's run: what every buffer holds between two grid points, and the run to the end. -/
module

public import proofs.«01_k».proof.Proof.Walk
public import proofs.«01_k».proof.Proof.Gen.KernelIdeal.Frame
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The staged batch between two grid points -/

/-- A step that copies nothing is on the same batch as the step before it. -/
theorem same_batch : ∀ t s : Fin grid0.N, s.val = t.val + 1 → k0_cond1 (grid0.coords s) ≠ 1#1 → (grid0.coords s 0).val = (grid0.coords t 0).val := by
  decide +kernel

/-- The first step copies. -/
theorem first_copies : ∀ s : Fin grid0.N, s.val = 0 → k0_cond1 (grid0.coords s) = 1#1 := by
  decide +kernel

/-- The planes held when step `n` starts: its batch's, unless the step copies them itself. -/
def Ready (c : Dev nD) (n : ℕ) (f : SBuf (F := F) c) : Prop :=
  ∀ s : Fin cfg0.N, s.val = n → k0_cond1 (grid0.coords s) ≠ 1#1 → f = img c (V m c main_call0_v0) (bat (grid0.coords s))

/-- What the body holds between grid points beside the windows. -/
def Between (c : Dev nD) (n : ℕ) : sProp 𝕄 :=
  iprop((∃ f : SBuf (F := F) c, ((c : Thread nD τ).loc cc0_scratch0 ↦{fullShare} f) ∗ ⌜Ready m c n f⌝)
    ∗ (∃ P : Buf (Elt F) ((c : Thread nD τ).loc cc0_scratch2), (c : Thread nD τ).loc cc0_scratch2 ↦{fullShare} P)
    ∗ (∃ r, prngReg c r) ∗ Pipeline.ownSems0 osem0 c ∗ ((c : Thread nD τ).loc main_call0_v0 ↦{fullShare} V m c main_call0_v0))

theorem staged_img (c : Dev nD) (t : Fin cfg0.N) (f : SBuf (F := F) c) (h : Ready m c t.val f) :
    stagedBy c (grid0.coords t) (V m c main_call0_v0) f = img c (V m c main_call0_v0) (bat (grid0.coords t)) := by
  unfold stagedBy
  by_cases hc : k0_cond1 (grid0.coords t) = 1#1
  · rw [if_pos hc]
  · rw [if_neg hc]; exact h t rfl hc

theorem ready_next (c : Dev nD) (t : Fin cfg0.N) : Ready m c (t.val + 1) (img c (V m c main_call0_v0) (bat (grid0.coords t))) :=
  fun s hs hc => by
    have hb : bat (grid0.coords s) = bat (grid0.coords t) := Fin.ext (same_batch t s hs hc)
    rw [hb]

/-! ## The kernel's proof data -/

/-- What the kernel writes into the result's window at a grid point. -/
def outAt (c : Dev nD) (t : Fin cfg0.N) : Vec F S1x1x111x111 .f32 :=
  stored (grid0.coords t) (iblk m c 0 t) (iblk m c 1 t) (iblk m c 2 t) (iblk m c 3 t) (iblk m c 4 t)
    (img c (V m c main_call0_v0) (bat (grid0.coords t)))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Between m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-! ## One grid point -/

/-- Every channel word the kernel reads names one of the 96 channels. -/
def Named : Prop :=
  ∀ (c : Dev nD) (t : Fin cfg0.N) (r : Fin 2) (l : Fin 8), (word (F := F) (grid0.coords t) (iblk m c 0 t) r l 2).toNat < 96

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- What the body takes up at a grid point. -/
theorem take_up (c : Dev nD) (t : Fin cfg0.N) :
    bodyPre m c t ⊢ iprop(∃ f : SBuf (F := F) c, ⌜Ready m c t.val f⌝ ∗ (held c (V m c main_call0_v0) f
      ∗ Start c (iblk m c 0 t) (iblk m c 1 t) (iblk m c 2 t) (iblk m c 3 t) (iblk m c 4 t)
          (st0_0 t) (st0_1 t) (st0_2 t) (st0_3 t) (st0_4 t) (st0_5 t)) ∗ ∃ r, prngReg c r) := by
  unfold bodyPre
  simp only [before_0, before_1, before_2, before_3, before_4]
  rw [show (dats m 0 c).Φ t.castSucc = Between m c t.val from rfl]
  unfold Dat.owesAt Pipeline.owesWithin
  rw [show (dats m 0 c).owed t.castSucc = 0 from rfl]
  unfold Between held Start
  iintro ⟨⟨⟨%f, Hf, %hf⟩, ⟨%P, HP⟩, Hg, Hq, HX⟩, ⟨%W, -, HW⟩, ⟨%d0, H0⟩, ⟨%d1, H1⟩, ⟨%d2, H2⟩, ⟨%d3, H3⟩, ⟨%d4, H4⟩, ⟨%d5, H5⟩⟩
  iexists f
  isplitr; · ipureintro; exact hf
  isplitr [Hg]; swap; · iexact Hg
  isplitl [Hf HX Hq HW]
  · isplitl [Hf]; · iexact Hf
    isplitl [HX]; · iexact HX
    isplitl [Hq]; · iexact Hq
    iexists W; iexact HW
  isplitl [H0]; · iexact H0
  isplitl [H1]; · iexact H1
  isplitl [H2]; · iexact H2
  isplitl [H3]; · iexact H3
  isplitl [H4]; · iexact H4
  isplitl [H5]; · iexists _; iexact H5
  iexists P
  rw [owns_whole]
  iexact HP

/-- What the body leaves at a grid point. -/
theorem put_down (c : Dev nD) (t : Fin cfg0.N) :
    iprop(Left c (grid0.coords t) (iblk m c 0 t) (iblk m c 1 t) (iblk m c 2 t) (iblk m c 3 t) (iblk m c 4 t)
        (img c (V m c main_call0_v0) (bat (grid0.coords t)))
        (st0_0 t) (st0_1 t) (st0_2 t) (st0_3 t) (st0_4 t) (st0_5 t) (Aside c (V m c main_call0_v0)) ∗ ∃ r, prngReg c r)
      ⊢ bodyPost m c t := by
  unfold bodyPost
  simp only [after_0, after_1, after_2, after_3, after_4, after_5]
  rw [show (dats m 0 c).Φ t.succ = Between m c (t.val + 1) from rfl]
  unfold Dat.owesAt Pipeline.owesWithin
  rw [show (dats m 0 c).owed t.succ = 0 from rfl]
  unfold Between Left Aside outAt
  rw [owns_whole]
  simp only [owns_whole]
  iintro ⟨⟨Hf, H0, H1, H2, H3, H4, H5, ⟨HX, Hq, %W, HW⟩, HP⟩, Hg⟩
  isplitl [Hf HX Hq HP Hg]
  · isplitl [Hf]
    · iexists _
      isplitl [Hf]; · iexact Hf
      ipureintro; exact ready_next m c t
    isplitl [HP]; · iexact HP
    isplitl [Hg]; · iexact Hg
    isplitl [Hq]; · iexact Hq
    iexact HX
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem sound_body (hn : Named m) (c : Dev nD) (t : Fin cfg0.N) :
    bodyPre m c t ⊢ wp frame (wpE (defs₀ (F := F)) Variants.none c none) Set.univ (bodyAt0 t) (fun _ => bodyPost m c t) := by
  refine (take_up m c t).trans ?_
  iintro ⟨%f, %hf, H⟩
  have hrun := (body_run (𝒱 := Variants.none) c (grid0.coords t) (iblk m c 0 t) (iblk m c 1 t) (iblk m c 2 t) (iblk m c 3 t) (iblk m c 4 t)
    (st0_0 t) (st0_1 t) (st0_2 t) (st0_3 t) (st0_4 t) (st0_5 t) (V m c main_call0_v0) f
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (Memref.isWhole_whole _) (Memref.isWhole_whole _) (Memref.isWhole_whole _) (hn c t))
  rw [staged_img m c t f hf] at hrun
  have hall := (sep_mono_left (Q := iprop(∃ r, prngReg c r)) hrun).trans ((wp_frame_r frame _ _).trans (wp_mono _ _ _ fun _ => put_down m c t))
  iapply hall
  iexact H

theorem defs₀_row (t : Fin cfg0.N) :
    defs₀ (F := F) .tc cfg0.body (cfg0.bodyArgs t (cfg0.slots t)) = bodyAt0 t := by
  unfold defs₀; rw [Defs.onTc_tc]

theorem body_obligation (hn : Named m) (c : Dev nD) : BodyObligation (dats (F := F) m 0 c) (defs₀ (F := F)) Variants.none () Set.univ := fun t => by
  rw [bigSep_W0, bigSep_W0, defs₀_row]
  exact triple_restated (sound_body m hn c t) rfl .rfl fun _ => .rfl

/-! ## The run and the frame -/

/-- The array the copies read: the one operand left where it is. -/
def H0 : Finset (Ref sig .tc) := {main_call0_v0}
theorem H0_sub : H0 ⊆ Pipeline.restRefs sig spec0 := by decide

theorem PhiD_eq (c : Dev nD) :
    (Pipeline.ΦD osem0 spec0 H0 (V m) c : sProp 𝕄)
      = iprop(((∃ f : Buf (Elt F) ((c : Thread nD τ).loc cc0_scratch0), (c : Thread nD τ).loc cc0_scratch0 ↦{fullShare} f)
          ∗ (∃ P : Buf (Elt F) ((c : Thread nD τ).loc cc0_scratch2), (c : Thread nD τ).loc cc0_scratch2 ↦{fullShare} P))
          ∗ (∃ r, prngReg c r) ∗ Pipeline.ownSems0 osem0 c ∗ ((c : Thread nD τ).loc main_call0_v0 ↦{fullShare} V m c main_call0_v0)) := by
  rw [Pipeline.ΦD_eq, scopedRest0_eq, BI.bigSep_eq_bigSepL_of_eq (S := H0) [main_call0_v0] (by decide) (by decide)]; rfl

theorem enter (c : Dev nD) : Pipeline.ΦD osem0 spec0 H0 (V m) c ⊢ Between m c 0 := by
  rw [PhiD_eq]; unfold Between
  iintro ⟨⟨⟨%f, Hf⟩, HP⟩, Hg, Hq, HX⟩
  isplitl [Hf]
  · iexists f
    isplitl [Hf]; · iexact Hf
    ipureintro; exact fun s hs hc => absurd (first_copies s hs) hc
  isplitl [HP]; · iexact HP
  isplitl [Hg]; · iexact Hg
  isplitl [Hq]; · iexact Hq
  iexact HX

theorem exit' (c : Dev nD) (n : ℕ) : Between m c n ⊢ Pipeline.ΦD osem0 spec0 H0 (V m) c := by
  rw [PhiD_eq]; unfold Between
  iintro ⟨⟨%f, Hf, -⟩, HP, Hg, Hq, HX⟩
  isplitl [Hf HP]
  · isplitl [Hf]; · iexists f; iexact Hf
    iexact HP
  isplitl [Hg]; · iexact Hg
  isplitl [Hq]; · iexact Hq
  iexact HX

set_option backward.isDefEq.respectTransparency.types false in
theorem run_main (hn : Named m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hn c).loose) (hshare := fun c => (dats m 0 c).share_full fun _ => rfl)
    (howed := fun _ _ => rfl) (V := V m) (hmain := hmainD m Variants.none) (hA := A_eq m)
    (hin := enter m) (hout := fun c => exit' m c _)

/-- The run leaves every argument as it was and every counter at zero. -/
theorem frame (hn : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ hn)

end Cert.KernelIdeal.Hand

end
-- ==== Proof.Entries.lean ====
/- What the region finds in the kernel's operands, entry by entry, in terms of the arguments. -/
module

public import proofs.«01_k».proof.Proof.Frame
public import Idealize.ShloMosaic.Lib.Pointwise
public import Idealize.ShloMosaic.Lib.Pipeline.ValueKit.Point
public import Idealize.ShloMosaic.Lib.Claim

@[expose] public section

set_option maxRecDepth 16384

noncomputable section
namespace Cert.KernelIdeal.Hand
open Idealize.ShloMosaic Idealize.ShloMosaic.TcCoe Idealize.ShloMosaic.Tactic
open Cert.KernelIdeal.Gen
variable {F : FTy → Type} [FloatOps F]
variable (m : (ℓ : Loc nD τ sig) → Buf (Elt F) ℓ)

theorem words_entry (c : Dev nD) (t : Fin cfg0.N) (r : Fin 2) (o : Fin 16) (l : Fin 8) (k : Fin 3) :
    iblk m c 0 t (ix4 r o l k) = m ((c : Thread nD τ).loc main_arg5) (ix4 r o (⟨l.val * 12321, by omega⟩ : Fin 98568) k) := by
  have he : ((cfg0.win 0).blk t).view.emb (ix4 r o l k) = ix4 r o l k := by
    funext a; fin_cases a <;> refine Fin.ext ?_ <;> blk_simp
    · show 0 * 2 + r.val = r.val; omega
    · show 0 * 16 + o.val = o.val; omega
    · show 0 * 8 + l.val = l.val; omega
    · show 0 * 3 + k.val = k.val; omega
  unfold iblk
  show V m c main_call0_v3 (((cfg0.win 0).blk t).view.emb (ix4 r o l k)) = _
  rw [he]
  entry_read
  simp only [StableHlo.TRef.toBuf, StableHlo.TRef.ofBuf]
  pointwise
  refine (?_ : m ((c : Thread nD τ).loc main_arg5) _ = _)
  refine congrArg (m ((c : Thread nD τ).loc main_arg5)) ?_
  funext a; fin_cases a <;> refine Fin.ext ?_
  · show 0 + r.val = r.val; omega
  · show 0 + o.val = o.val; omega
  · show (0 + l.val) * 12321 + (0 + 0) = l.val * 12321; omega
  · show 0 + k.val = k.val; omega
theorem img_entry (c : Dev nD) (b : Fin 2) (ch : Fin 96) (x y : Fin 224) :
    img c (V m c main_call0_v0) b (ix3 ch x y) = m ((c : Thread nD τ).loc main_arg0) (ix4 b ch x y) := by
  unfold img
  entry_read
  pointwise
  refine congrArg (m ((c : Thread nD τ).loc main_arg0)) ?_
  have hb := b.isLt; have hc := ch.isLt; have hx := x.isLt
  funext a; fin_cases a <;> refine Fin.ext ?_
  · show ((b.val * 96 + ch.val) * 224 + x.val) / 21504 = b.val; omega
  · show ((b.val * 96 + ch.val) * 224 + x.val) / 224 % 96 = ch.val; omega
  · show ((b.val * 96 + ch.val) * 224 + x.val) % 224 = x.val; omega
  · rfl
theorem weights1_entry (c : Dev nD) (t : Fin cfg0.N) (n : Fin 8) (o : Fin 16) (k : Fin 4) :
    iblk m c 1 t (ix3 n o k) = m ((c : Thread nD τ).loc main_arg1) (ix3 n o k) := by
  have he : ((cfg0.win 1).blk t).view.emb (ix3 n o k) = ix3 n o k := by
    funext a; fin_cases a <;> refine Fin.ext ?_ <;> blk_simp
    · show 0 * 8 + n.val = n.val; omega
    · show 0 * 16 + o.val = o.val; omega
    · show 0 * 4 + k.val = k.val; omega
  unfold iblk
  show V m c main_arg1 (((cfg0.win 1).blk t).view.emb (ix3 n o k)) = _
  rw [he, V_main_arg1]

theorem weights2_entry (c : Dev nD) (t : Fin cfg0.N) (n : Fin 4) (o : Fin 16) (k : Fin 4) :
    iblk m c 2 t (ix3 n o k) = m ((c : Thread nD τ).loc main_arg2) (ix3 n o k) := by
  have he : ((cfg0.win 2).blk t).view.emb (ix3 n o k) = ix3 n o k := by
    funext a; fin_cases a <;> refine Fin.ext ?_ <;> blk_simp
    · show 0 * 4 + n.val = n.val; omega
    · show 0 * 16 + o.val = o.val; omega
    · show 0 * 4 + k.val = k.val; omega
  unfold iblk
  show V m c main_arg2 (((cfg0.win 2).blk t).view.emb (ix3 n o k)) = _
  rw [he, V_main_arg2]

theorem weights3_entry (c : Dev nD) (t : Fin cfg0.N) (n : Fin 2) (o : Fin 16) (k : Fin 4) :
    iblk m c 3 t (ix3 n o k) = m ((c : Thread nD τ).loc main_arg3) (ix3 n o k) := by
  have he : ((cfg0.win 3).blk t).view.emb (ix3 n o k) = ix3 n o k := by
    funext a; fin_cases a <;> refine Fin.ext ?_ <;> blk_simp
    · show 0 * 2 + n.val = n.val; omega
    · show 0 * 16 + o.val = o.val; omega
    · show 0 * 4 + k.val = k.val; omega
  unfold iblk
  show V m c main_arg3 (((cfg0.win 3).blk t).view.emb (ix3 n o k)) = _
  rw [he, V_main_arg3]

theorem weights4_entry (c : Dev nD) (t : Fin cfg0.N) (n : Fin 1) (o : Fin 16) (k : Fin 4) :
    iblk m c 4 t (ix3 n o k) = m ((c : Thread nD τ).loc main_arg4) (ix3 n o k) := by
  have he : ((cfg0.win 4).blk t).view.emb (ix3 n o k) = ix3 n o k := by
    funext a; fin_cases a <;> refine Fin.ext ?_ <;> blk_simp
    · show 0 = 0; rfl
    · show 0 * 16 + o.val = o.val; omega
    · show 0 * 4 + k.val = k.val; omega
  unfold iblk
  show V m c main_arg4 (((cfg0.win 4).blk t).view.emb (ix3 n o k)) = _
  rw [he, V_main_arg4]

/-- Channel words below 96 in the argument are channel words below 96 in the kernel's hands. -/
theorem named_of_arg (h : ∀ (c : Dev nD) (r : Fin 2) (o : Fin 16) (p : Fin 98568),
    (m ((c : Thread nD τ).loc main_arg5) (ix4 r o p (2 : Fin 3)) : BitVec 32).toNat < 96) : Named m := fun c t r l => by
  have e := words_entry m c t r ⟨(grid0.coords t 1).val, (grid0.coords t 1).isLt⟩ l 2
  unfold word
  exact (congrArg (fun v : BitVec 32 => v.toNat) e).trans_lt (h c r _ _)

end Cert.KernelIdeal.Hand
end
-- ==== Proof.Channels.lean ====
/- The precondition on channels, read at one word. -/
module

public import proofs.«01_k».proof.Pre_channels_named
public import Idealize.ShloMosaic.Lib.Pointwise

@[expose] public section

set_option maxRecDepth 16384

noncomputable section

namespace Cert.Hand

open Idealize.ShloMosaic Idealize.ShloMosaic.Tactic

/-- Two conditions that hold together hold each. -/
theorem both_true {a b : BitVec 1} (h : IntOp.andi a b = 1#1) : a = 1#1 ∧ b = 1#1 := by
  revert a b; decide

theorem true_of_word {b : Bool} (h : BitVec.ofBool b = 1#1) : b = true := by
  cases b <;> simp_all

/-- A word that is at least 0 and at most `b`, signed, is at most `b`. -/
theorem upto_of_signed {v : BitVec 32} {b : ℕ} (hb : b < 2 ^ 31)
    (h : IntOp.andi (IntOp.cmpi CmpIPredicate.sge v 0#32) (IntOp.cmpi CmpIPredicate.sle v (BitVec.ofNat 32 b)) = 1#1) : v.toNat ≤ b := by
  obtain ⟨h0, h1⟩ := both_true h
  have h0 := true_of_word h0
  have h1 := true_of_word h1
  simp only [BitVec.sle, decide_eq_true_eq, BitVec.toInt, BitVec.toNat_ofNat] at h0 h1
  have := v.isLt
  norm_num at h0 h1 hb
  rw [Nat.mod_eq_of_lt (by omega)] at h1
  split at h0 <;> split at h1 <;> split at h1 <;> omega

/-- Every channel word the precondition speaks of is below 96. -/
theorem channel_below [Cert.Pre_channels_named.Facts] {F : FTy → Type} [FloatOps F] {x : FVec F Cert.Pre_channels_named.S2x96x224x224 .f32} {w0 : FVec F Cert.Pre_channels_named.S8x16x4 .f32}
    {w1 : FVec F Cert.Pre_channels_named.S4x16x4 .f32} {w2 : FVec F Cert.Pre_channels_named.S2x16x4 .f32} {w3 : FVec F Cert.Pre_channels_named.S1x16x4 .f32}
    {taps : IVec Cert.Pre_channels_named.S2x16x98568x3 32} {l1 : IVec Cert.Pre_channels_named.S2x49284 32} {l2 : IVec Cert.Pre_channels_named.S2x24642 32} {l3 : IVec Cert.Pre_channels_named.S2x12321 32}
    (h : Cert.Pre_channels_named.fn x w0 w1 w2 w3 taps l1 l2 l3 = fun _ => 1#1) (r : Fin 2) (o : Fin 16) (p : Fin 98568) :
    (taps (ix4 r o p (2 : Fin 3)) : BitVec 32).toNat < 96 := by
  have h' := congrFun h (ix3 r o p)
  unfold Cert.Pre_channels_named.fn at h'
  pointwise at h'
  have := upto_of_signed (b := 95) (by norm_num) h'
  omega

end Cert.Hand

end
-- ==== Proof.Gates.lean ====
/- Gates over the extended reals: the kernel's form and the problem's agree on numbers. -/
module

public import Idealize.ShloMosaic.Lib.Pointwise
public import Idealize.ShloMosaic.PureOps.Ideal

@[expose] public section

set_option maxRecDepth 16384

noncomputable section
namespace Cert.Hand
open Idealize.ShloMosaic
/-- Where a row's maximum starts. -/
abbrev lowest : EReal := Ideal.ofBits .f32 0xFF800000#32

/-- A row of four weights as shares of one. -/
def shares (w : Fin 4 → EReal) (k : Fin 4) : EReal :=
  Ideal.div (Ideal.exp (w k - max lowest (Finset.fold max lowest w Finset.univ)))
    (∑ x, Ideal.exp (w x - max lowest (Finset.fold max lowest w Finset.univ)))

/-- The gate as the kernel computes it. -/
def gate (p : Fin 4 → EReal) (a b : EReal) : EReal :=
  (p 0 + (p 2 - p 0) * a) + b * ((p 1 - p 0) + (p 0 - p 1 - p 2 + p 3) * a)

/-- The gate as the problem states it. -/
def blend (p : Fin 4 → EReal) (a b : EReal) : EReal :=
  p 0 * (1 - a) * (1 - b) + p 1 * (1 - a) * b + p 2 * a * (1 - b) + p 3 * a * b

/-- A number that is neither infinity. -/
def IsNum (x : EReal) : Prop := ∃ r : ℝ, x = (r : EReal)

theorem lowest_eq : lowest = ⊥ := by
  unfold lowest
  simp [Ideal.ofBits, Ideal.ieee]

theorem gate_eq_blend {p : Fin 4 → EReal} {a b : EReal} (hp : ∀ k, IsNum (p k)) (ha : IsNum a) (hb : IsNum b) :
    gate p a b = blend p a b ∧ IsNum (gate p a b) := by
  obtain ⟨p0, h0⟩ := hp 0
  obtain ⟨p1, h1⟩ := hp 1
  obtain ⟨p2, h2⟩ := hp 2
  obtain ⟨p3, h3⟩ := hp 3
  obtain ⟨a, rfl⟩ := ha
  obtain ⟨b, rfl⟩ := hb
  unfold gate blend IsNum
  rw [h0, h1, h2, h3]
  constructor
  · norm_cast
    ring_nf
  · exact ⟨(p0 + (p2 - p0) * a) + b * ((p1 - p0) + (p0 - p1 - p2 + p3) * a), by push_cast; rfl⟩

theorem shares_fin {w : Fin 4 → EReal} (hw : ∀ k, IsNum (w k)) (k : Fin 4) : IsNum (shares w k) := by
  choose r hr using hw
  have hM : ∃ M : ℝ, max lowest (Finset.fold max lowest w Finset.univ) = (M : EReal) := by
    rw [lowest_eq]
    refine ⟨max (r 0) (max (r 1) (max (r 2) (r 3))), ?_⟩
    rw [show (Finset.univ : Finset (Fin 4)) = {0, 1, 2, 3} from rfl]
    rw [Finset.fold_insert (by decide), Finset.fold_insert (by decide), Finset.fold_insert (by decide), Finset.fold_singleton]
    simp only [hr, bot_le, max_eq_right, max_bot_right, max_bot_left, sup_of_le_left, Function.comp]
    rw [EReal.coe_strictMono.monotone.map_max, EReal.coe_strictMono.monotone.map_max, EReal.coe_strictMono.monotone.map_max]
  obtain ⟨M, hM⟩ := hM
  unfold shares
  rw [hM]
  have he : ∀ x, Ideal.exp (w x - (M : EReal)) = ((Real.exp (r x - M) : ℝ) : EReal) := fun x => by
    rw [hr x, ← EReal.coe_sub]; rfl
  simp only [he]
  have hs : ∑ x, ((Real.exp (r x - M) : ℝ) : EReal) = ((∑ x, Real.exp (r x - M) : ℝ) : EReal) := by
    simp only [Fin.sum_univ_four]; push_cast; rfl
  rw [hs, Ideal.div_coe (by have : 0 < ∑ x, Real.exp (r x - M) := Finset.sum_pos (fun _ _ => Real.exp_pos _) ⟨0, Finset.mem_univ _⟩; exact this.ne')]
  exact ⟨Real.exp (r k - M) * (1 / ∑ x, Real.exp (r x - M)), by push_cast; rfl⟩

/-- The node of a level from the two nodes below it. -/
def pair {n : ℕ} (G : (Fin 4 → EReal) → EReal → EReal → EReal) (p : Fin n → Fin 4 → EReal) (h : Fin (2 * n) → EReal) (k : Fin n) : EReal :=
  G (p k) (h ⟨2 * k.val, by omega⟩) (h ⟨2 * k.val + 1, by omega⟩)

/-- The whole tree of gates at one place of the image: eight leaves, then four, two and one gates. -/
def tree (G : (Fin 4 → EReal) → EReal → EReal → EReal) (p0 : Fin 8 → Fin 4 → EReal) (p1 : Fin 4 → Fin 4 → EReal) (p2 : Fin 2 → Fin 4 → EReal)
    (p3 : Fin 1 → Fin 4 → EReal) (x : Fin 2 → Fin 8 → EReal) : EReal :=
  pair G p3 (pair G p2 (pair G p1 fun l => G (p0 l) (x 0 l) (x 1 l))) 0

theorem pair_eq {n : ℕ} {p : Fin n → Fin 4 → EReal} {h h' : Fin (2 * n) → EReal} (hp : ∀ l k, IsNum (p l k)) (hh : ∀ l, h l = h' l ∧ IsNum (h l)) (k : Fin n) :
    pair gate p h k = pair blend p h' k ∧ IsNum (pair gate p h k) := by
  unfold pair
  rw [← (hh _).1, ← (hh _).1]
  exact gate_eq_blend (hp k) (hh _).2 (hh _).2

/-- On numbers the tree of the kernel's gates is the tree of the problem's, and a number. -/
theorem tree_eq {p0 : Fin 8 → Fin 4 → EReal} {p1 : Fin 4 → Fin 4 → EReal} {p2 : Fin 2 → Fin 4 → EReal}
    {p3 : Fin 1 → Fin 4 → EReal} {x : Fin 2 → Fin 8 → EReal} (h0 : ∀ l k, IsNum (p0 l k)) (h1 : ∀ l k, IsNum (p1 l k)) (h2 : ∀ l k, IsNum (p2 l k))
    (h3 : ∀ l k, IsNum (p3 l k)) (hx : ∀ r l, IsNum (x r l)) :
    tree gate p0 p1 p2 p3 x = tree blend p0 p1 p2 p3 x ∧ IsNum (tree gate p0 p1 p2 p3 x) :=
  pair_eq h3 (fun l => pair_eq h2 (fun l => pair_eq h1 (fun l => gate_eq_blend (h0 l) (hx 0 l) (hx 1 l)) l) l) 0

/-- The problem's gate from its parts. -/
theorem blend_of {p0 p1 p2 p3 u v u' v' : EReal} {p : Fin 4 → EReal} (h0 : p0 = p 0) (h1 : p1 = p 1) (h2 : p2 = p 2) (h3 : p3 = p 3) (hu : u = u') (hv : v = v') :
    p0 * (1 - u) * (1 - v) + p1 * (1 - u) * v + p2 * u * (1 - v) + p3 * u * v = blend p u' v' := by
  subst h0 h1 h2 h3 hu hv; rfl

/-- Dividing by one changes nothing. -/
theorem div_by_one (x : EReal) : Ideal.div x 1 = x := by
  unfold Ideal.div; rw [if_neg one_ne_zero]
  simp
end Cert.Hand
end
-- ==== Proof.Drawn.lean ====
/- What the precondition on drawn inputs says, entry by entry. -/
module

public import proofs.«01_k».proof.Proof.Channels
public import proofs.«01_k».proof.Pre_drawn
public import proofs.«01_k».proof.Proof.Gates

@[expose] public section

set_option maxRecDepth 16384

noncomputable section
namespace Cert.Hand
open Idealize.ShloMosaic Idealize.ShloMosaic.Tactic
open Cert.Pre_drawn

/-- Inputs as they are drawn: numbers, taps at one small offset of each patch's field, levels pairing neighbours. -/
structure Drawn (x : FVec Ideal S2x96x224x224 .f32) (w0 : FVec Ideal S8x16x4 .f32)
    (w1 : FVec Ideal S4x16x4 .f32) (w2 : FVec Ideal S2x16x4 .f32) (w3 : FVec Ideal S1x16x4 .f32)
    (taps : IVec S2x16x98568x3 32) (l1 : IVec S2x49284 32) (l2 : IVec S2x24642 32) (l3 : IVec S2x12321 32) : Prop where
  x_num : ∀ b c p q, IsNum (x (ix4 b c p q))
  w0_num : ∀ n o k, IsNum (w0 (ix3 n o k))
  w1_num : ∀ n o k, IsNum (w1 (ix3 n o k))
  w2_num : ∀ n o k, IsNum (w2 (ix3 n o k))
  w3_num : ∀ n o k, IsNum (w3 (ix3 n o k))
  row : ∀ (r : Fin 2) (o : Fin 16) (l : Fin 8) (i j : Fin 111), (taps (ix4 r o (⟨l.val * 12321 + i.val * 111 + j.val, by omega⟩ : Fin 98568) (0 : Fin 3))).toNat
    = (taps (ix4 r o (⟨l.val * 12321, by omega⟩ : Fin 98568) (0 : Fin 3))).toNat + 2 * i.val
  col : ∀ (r : Fin 2) (o : Fin 16) (l : Fin 8) (i j : Fin 111), (taps (ix4 r o (⟨l.val * 12321 + i.val * 111 + j.val, by omega⟩ : Fin 98568) (1 : Fin 3))).toNat
    = (taps (ix4 r o (⟨l.val * 12321, by omega⟩ : Fin 98568) (1 : Fin 3))).toNat + 2 * j.val
  chan : ∀ (r : Fin 2) (o : Fin 16) (l : Fin 8) (i j : Fin 111), (taps (ix4 r o (⟨l.val * 12321 + i.val * 111 + j.val, by omega⟩ : Fin 98568) (2 : Fin 3))).toNat
    = (taps (ix4 r o (⟨l.val * 12321, by omega⟩ : Fin 98568) (2 : Fin 3))).toNat
  row_le : ∀ (r : Fin 2) (o : Fin 16) (l : Fin 8), (taps (ix4 r o (⟨l.val * 12321, by omega⟩ : Fin 98568) (0 : Fin 3))).toNat ≤ 2
  col_le : ∀ (r : Fin 2) (o : Fin 16) (l : Fin 8), (taps (ix4 r o (⟨l.val * 12321, by omega⟩ : Fin 98568) (1 : Fin 3))).toNat ≤ 2
  chan_le : ∀ (r : Fin 2) (o : Fin 16) (l : Fin 8), (taps (ix4 r o (⟨l.val * 12321, by omega⟩ : Fin 98568) (2 : Fin 3))).toNat ≤ 95
  level1 : ∀ (r : Fin 2) (n : Fin 4) (p : Fin 12321), (l1 (ix2 r (⟨n.val * 12321 + p.val, by omega⟩ : Fin 49284))).toNat = (2 * n.val + r.val) * 12321 + p.val
  level2 : ∀ (r : Fin 2) (n : Fin 2) (p : Fin 12321), (l2 (ix2 r (⟨n.val * 12321 + p.val, by omega⟩ : Fin 24642))).toNat = (2 * n.val + r.val) * 12321 + p.val
  level3 : ∀ (r : Fin 2) (p : Fin 12321), (l3 (ix2 r p)).toNat = r.val * 12321 + p.val

theorem num_of_word {v : EReal} (h : BitVec.ofBool (decide ((FloatOps.absf (F := Ideal) (φ := .f32) v : EReal) < Ideal.ofBits FTy.f32 2139095040#32)) = 1#1) : IsNum v := by
  have h := of_decide_eq_true (true_of_word h)
  have htop : Ideal.ofBits FTy.f32 2139095040#32 = ⊤ := by simp [Ideal.ofBits, Ideal.ieee]
  rw [htop] at h
  have h : (max v (-v) : EReal) < ⊤ := h
  induction v with
  | bot => simp at h
  | top => simp at h
  | coe r => exact ⟨r, rfl⟩

theorem eq_of_word {a b : BitVec 32} (h : IntOp.cmpi CmpIPredicate.eq a b = 1#1) : a = b := by
  exact eq_of_beq (true_of_word h)

variable [Cert.Pre_drawn.Facts] {x : FVec Ideal S2x96x224x224 .f32} {w0 : FVec Ideal S8x16x4 .f32}
    {w1 : FVec Ideal S4x16x4 .f32} {w2 : FVec Ideal S2x16x4 .f32} {w3 : FVec Ideal S1x16x4 .f32}
    {taps : IVec S2x16x98568x3 32} {l1 : IVec S2x49284 32} {l2 : IVec S2x24642 32} {l3 : IVec S2x12321 32}

theorem x_of (h : (fn x w0 w1 w2 w3 taps l1 l2 l3).1 = fun _ => 1#1) (b c p q) : IsNum (x (ix4 b c p q)) := by
  have h' := congrFun h (ix4 b c p q)
  unfold fn fn_part1 fn_part2 fn_part3 fn_part4 fn_part5 at h'
  pointwise at h'
  exact num_of_word h'
theorem w0_of (h : (fn x w0 w1 w2 w3 taps l1 l2 l3).2.1 = fun _ => 1#1) (n o k) : IsNum (w0 (ix3 n o k)) := by
  have h' := congrFun h (ix3 n o k)
  unfold fn fn_part1 fn_part2 fn_part3 fn_part4 fn_part5 at h'
  pointwise at h'
  exact num_of_word h'
theorem w1_of (h : (fn x w0 w1 w2 w3 taps l1 l2 l3).2.2.1 = fun _ => 1#1) (n o k) : IsNum (w1 (ix3 n o k)) := by
  have h' := congrFun h (ix3 n o k)
  unfold fn fn_part1 fn_part2 fn_part3 fn_part4 fn_part5 at h'
  pointwise at h'
  exact num_of_word h'
theorem w2_of (h : (fn x w0 w1 w2 w3 taps l1 l2 l3).2.2.2.1 = fun _ => 1#1) (n o k) : IsNum (w2 (ix3 n o k)) := by
  have h' := congrFun h (ix3 n o k)
  unfold fn fn_part1 fn_part2 fn_part3 fn_part4 fn_part5 at h'
  pointwise at h'
  exact num_of_word h'
theorem w3_of (h : (fn x w0 w1 w2 w3 taps l1 l2 l3).2.2.2.2.1 = fun _ => 1#1) (n : Fin 1) (o : Fin 16) (k : Fin 4) : IsNum (w3 (ix3 n o k)) := by
  obtain rfl : n = 0 := Subsingleton.elim _ _
  have h' := congrFun h (ix3 (0 : Fin 1) o k)
  unfold fn fn_part1 fn_part2 fn_part3 fn_part4 fn_part5 at h'
  pointwise at h'
  exact num_of_word h'

/-- A small word plus twice a small number, read off. -/
theorem offset_word {v : BitVec 32} (i : Fin 111) (hv : v.toNat ≤ 2) :
    (IntOp.addi v (IntOp.muli (2#32) (BitVec.ofNat 32 i.val))).toNat = v.toNat + 2 * i.val := by
  have := i.isLt
  simp only [IntOp.addi, IntOp.muli, BitVec.toNat_add, BitVec.toNat_mul, BitVec.toNat_ofNat]
  omega

theorem rowLe_of (h : (fn x w0 w1 w2 w3 taps l1 l2 l3).2.2.2.2.2.2.2.2.1 = fun _ => 1#1) (r : Fin 2) (o : Fin 16) (l : Fin 8) :
    (taps (ix4 r o (⟨l.val * 12321, by omega⟩ : Fin 98568) (0 : Fin 3))).toNat ≤ 2 := by
  have h' := congrFun h (ix5 r o l 0 0)
  unfold fn fn_part1 fn_part2 fn_part3 fn_part4 fn_part5 at h'
  pointwise at h'
  exact upto_of_signed (b := 2) (by norm_num) h'
theorem colLe_of (h : (fn x w0 w1 w2 w3 taps l1 l2 l3).2.2.2.2.2.2.2.2.2.1 = fun _ => 1#1) (r : Fin 2) (o : Fin 16) (l : Fin 8) :
    (taps (ix4 r o (⟨l.val * 12321, by omega⟩ : Fin 98568) (1 : Fin 3))).toNat ≤ 2 := by
  have h' := congrFun h (ix5 r o l 0 0)
  unfold fn fn_part1 fn_part2 fn_part3 fn_part4 fn_part5 at h'
  pointwise at h'
  exact upto_of_signed (b := 2) (by norm_num) h'
theorem chanLe_of (h : (fn x w0 w1 w2 w3 taps l1 l2 l3).2.2.2.2.2.2.2.2.2.2.1 = fun _ => 1#1) (r : Fin 2) (o : Fin 16) (l : Fin 8) :
    (taps (ix4 r o (⟨l.val * 12321, by omega⟩ : Fin 98568) (2 : Fin 3))).toNat ≤ 95 := by
  have h' := congrFun h (ix5 r o l 0 0)
  unfold fn fn_part1 fn_part2 fn_part3 fn_part4 fn_part5 at h'
  pointwise at h'
  exact upto_of_signed (b := 95) (by norm_num) h'

theorem row_of (h : (fn x w0 w1 w2 w3 taps l1 l2 l3).2.2.2.2.2.1 = fun _ => 1#1) (r : Fin 2) (o : Fin 16) (l : Fin 8) (i j : Fin 111)
    (hv : (taps (ix4 r o (⟨l.val * 12321, by omega⟩ : Fin 98568) (0 : Fin 3))).toNat ≤ 2) :
    (taps (ix4 r o (⟨l.val * 12321 + i.val * 111 + j.val, by omega⟩ : Fin 98568) (0 : Fin 3))).toNat
      = (taps (ix4 r o (⟨l.val * 12321, by omega⟩ : Fin 98568) (0 : Fin 3))).toNat + 2 * i.val := by
  have h' := congrFun h (ix5 r o l i j)
  unfold fn fn_part1 fn_part2 fn_part3 fn_part4 fn_part5 at h'
  pointwise at h'
  exact (congrArg BitVec.toNat (eq_of_word h')).trans (offset_word i hv)
theorem col_of (h : (fn x w0 w1 w2 w3 taps l1 l2 l3).2.2.2.2.2.2.1 = fun _ => 1#1) (r : Fin 2) (o : Fin 16) (l : Fin 8) (i j : Fin 111)
    (hv : (taps (ix4 r o (⟨l.val * 12321, by omega⟩ : Fin 98568) (1 : Fin 3))).toNat ≤ 2) :
    (taps (ix4 r o (⟨l.val * 12321 + i.val * 111 + j.val, by omega⟩ : Fin 98568) (1 : Fin 3))).toNat
      = (taps (ix4 r o (⟨l.val * 12321, by omega⟩ : Fin 98568) (1 : Fin 3))).toNat + 2 * j.val := by
  have h' := congrFun h (ix5 r o l i j)
  unfold fn fn_part1 fn_part2 fn_part3 fn_part4 fn_part5 at h'
  pointwise at h'
  exact (congrArg BitVec.toNat (eq_of_word h')).trans (offset_word j hv)
theorem chan_of (h : (fn x w0 w1 w2 w3 taps l1 l2 l3).2.2.2.2.2.2.2.1 = fun _ => 1#1) (r : Fin 2) (o : Fin 16) (l : Fin 8) (i j : Fin 111) :
    (taps (ix4 r o (⟨l.val * 12321 + i.val * 111 + j.val, by omega⟩ : Fin 98568) (2 : Fin 3))).toNat
      = (taps (ix4 r o (⟨l.val * 12321, by omega⟩ : Fin 98568) (2 : Fin 3))).toNat := by
  have h' := congrFun h (ix5 r o l i j)
  unfold fn fn_part1 fn_part2 fn_part3 fn_part4 fn_part5 at h'
  pointwise at h'
  exact congrArg BitVec.toNat (eq_of_word h')

theorem level_word {n r p : ℕ} (hn : n < 4) (hr : r < 2) (hp : p < 12321) :
    (IntOp.addi (IntOp.muli (IntOp.addi (IntOp.muli (2#32) (BitVec.ofNat 32 n)) (BitVec.ofNat 32 r)) 12321#32) (BitVec.ofNat 32 p)).toNat
      = (2 * n + r) * 12321 + p := by
  simp only [IntOp.addi, IntOp.muli, BitVec.toNat_add, BitVec.toNat_mul, BitVec.toNat_ofNat]
  omega

theorem level1_of (h : (fn x w0 w1 w2 w3 taps l1 l2 l3).2.2.2.2.2.2.2.2.2.2.2.1 = fun _ => 1#1) (r : Fin 2) (n : Fin 4) (p : Fin 12321) :
    (l1 (ix2 r (⟨n.val * 12321 + p.val, by omega⟩ : Fin 49284))).toNat = (2 * n.val + r.val) * 12321 + p.val := by
  have h' := congrFun h (ix3 r n p)
  unfold fn fn_part1 fn_part2 fn_part3 fn_part4 fn_part5 at h'
  pointwise at h'
  exact (congrArg BitVec.toNat (eq_of_word h')).trans (level_word (by omega) r.isLt p.isLt)
theorem level2_of (h : (fn x w0 w1 w2 w3 taps l1 l2 l3).2.2.2.2.2.2.2.2.2.2.2.2.1 = fun _ => 1#1) (r : Fin 2) (n : Fin 2) (p : Fin 12321) :
    (l2 (ix2 r (⟨n.val * 12321 + p.val, by omega⟩ : Fin 24642))).toNat = (2 * n.val + r.val) * 12321 + p.val := by
  have h' := congrFun h (ix3 r n p)
  unfold fn fn_part1 fn_part2 fn_part3 fn_part4 fn_part5 at h'
  pointwise at h'
  exact (congrArg BitVec.toNat (eq_of_word h')).trans (level_word (by omega) r.isLt p.isLt)
theorem level3_of (h : (fn x w0 w1 w2 w3 taps l1 l2 l3).2.2.2.2.2.2.2.2.2.2.2.2.2 = fun _ => 1#1) (r : Fin 2) (p : Fin 12321) :
    (l3 (ix2 r p)).toNat = r.val * 12321 + p.val := by
  have h' := congrFun h (ix3 r (0 : Fin 1) p)
  unfold fn fn_part1 fn_part2 fn_part3 fn_part4 fn_part5 at h'
  pointwise at h'
  refine (congrArg BitVec.toNat (eq_of_word h')).trans ((level_word (n := 0) (by omega) r.isLt p.isLt).trans (by omega))

/-- The precondition's arrays all ones make the inputs drawn. -/
theorem drawn_of (h : (fn x w0 w1 w2 w3 taps l1 l2 l3).1 = (fun _ => 1#1)
    ∧ (fn x w0 w1 w2 w3 taps l1 l2 l3).2.1 = (fun _ => 1#1)
    ∧ (fn x w0 w1 w2 w3 taps l1 l2 l3).2.2.1 = (fun _ => 1#1)
    ∧ (fn x w0 w1 w2 w3 taps l1 l2 l3).2.2.2.1 = (fun _ => 1#1)
    ∧ (fn x w0 w1 w2 w3 taps l1 l2 l3).2.2.2.2.1 = (fun _ => 1#1)
    ∧ (fn x w0 w1 w2 w3 taps l1 l2 l3).2.2.2.2.2.1 = (fun _ => 1#1)
    ∧ (fn x w0 w1 w2 w3 taps l1 l2 l3).2.2.2.2.2.2.1 = (fun _ => 1#1)
    ∧ (fn x w0 w1 w2 w3 taps l1 l2 l3).2.2.2.2.2.2.2.1 = (fun _ => 1#1)
    ∧ (fn x w0 w1 w2 w3 taps l1 l2 l3).2.2.2.2.2.2.2.2.1 = (fun _ => 1#1)
    ∧ (fn x w0 w1 w2 w3 taps l1 l2 l3).2.2.2.2.2.2.2.2.2.1 = (fun _ => 1#1)
    ∧ (fn x w0 w1 w2 w3 taps l1 l2 l3).2.2.2.2.2.2.2.2.2.2.1 = (fun _ => 1#1)
    ∧ (fn x w0 w1 w2 w3 taps l1 l2 l3).2.2.2.2.2.2.2.2.2.2.2.1 = (fun _ => 1#1)
    ∧ (fn x w0 w1 w2 w3 taps l1 l2 l3).2.2.2.2.2.2.2.2.2.2.2.2.1 = (fun _ => 1#1)
    ∧ (fn x w0 w1 w2 w3 taps l1 l2 l3).2.2.2.2.2.2.2.2.2.2.2.2.2 = (fun _ => 1#1)) :
    Drawn x w0 w1 w2 w3 taps l1 l2 l3 := by
  obtain ⟨hx, h0, h1, h2, h3, hr, hc, hk, hr2, hc2, hk2, hl1, hl2, hl3⟩ := h
  exact ⟨x_of hx, w0_of h0, w1_of h1, w2_of h2, w3_of h3, fun r o l i j => row_of hr r o l i j (rowLe_of hr2 r o l),
    fun r o l i j => col_of hc r o l i j (colLe_of hc2 r o l), chan_of hk, rowLe_of hr2, colLe_of hc2, chanLe_of hk2, level1_of hl1, level2_of hl2, level3_of hl3⟩

end Cert.Hand
end
-- ==== Proof.Places.lean ====
/- Where a leaf of the tree reads the image. -/
module

public import proofs.«01_k».proof.Proof.Gates
public import Idealize.ShloMosaic.Lib.Pointwise

@[expose] public section

set_option maxRecDepth 16384

noncomputable section
namespace Cert.Hand
open Idealize.ShloMosaic

/-- The word of a leaf's tap at its patch's corner. -/
def corner (taps : (⟨4, ![2, 16, 98568, 3]⟩ : Shape).Idx → BitVec 32) (o : Fin 16) (r : Fin 2) (l : Fin 8) (k : Fin 3) : ℕ :=
  (taps (ix4 r o (⟨l.val * 12321, by omega⟩ : Fin 98568) k)).toNat

/-- The image's entry a leaf reads for the result's place `(y, x)`. -/
def leafAt (img : (⟨4, ![2, 96, 224, 224]⟩ : Shape).Idx → EReal) (taps : (⟨4, ![2, 16, 98568, 3]⟩ : Shape).Idx → BitVec 32) (b : Fin 2) (o : Fin 16)
    (y x : Fin 111) (r : Fin 2) (l : Fin 8) : EReal :=
  img (ix4 b (⟨corner taps o r l 2 % 96, Nat.mod_lt _ (by decide)⟩ : Fin 96) (⟨(corner taps o r l 0 + 2 * y.val) % 224, Nat.mod_lt _ (by decide)⟩ : Fin 224)
    (⟨(corner taps o r l 1 + 2 * x.val) % 224, Nat.mod_lt _ (by decide)⟩ : Fin 224))

/-- A level's shares for one filter. -/
def levelShares {n : ℕ} (w : (⟨3, ![n, 16, 4]⟩ : Shape).Idx → EReal) (o : Fin 16) (l : Fin n) (k : Fin 4) : EReal :=
  shares (fun x => w (ix3 l o x)) k

end Cert.Hand
end
-- ==== Proof.ValueLeaf.lean ====
/- The operand of a leaf, entry by entry. -/
module

public import proofs.«01_k».proof.Proof.Entries
public import proofs.«01_k».proof.Proof.Places

@[expose] public section

set_option maxRecDepth 16384

noncomputable section
namespace Cert.KernelIdeal.Hand
open Idealize.ShloMosaic Idealize.ShloMosaic.TcCoe Idealize.ShloMosaic.Tactic
open Cert.KernelIdeal.Gen
open Cert.Hand

theorem small_word {v : BitVec 32} (h : v.toNat ≤ 2) : v = 0#32 ∨ v = 1#32 ∨ v = 2#32 := by
  have h3 : v.toNat = 0 ∨ v.toNat = 1 ∨ v.toNat = 2 := by omega
  rcases h3 with e | e | e
  · exact Or.inl (BitVec.eq_of_toNat_eq e)
  · exact Or.inr (Or.inl (BitVec.eq_of_toNat_eq e))
  · exact Or.inr (Or.inr (BitVec.eq_of_toNat_eq e))

/-- The plane an operand takes from its channel starts at the tap's small offset. -/
theorem pay9_entry (a b : BitVec 32) (w : FVec Ideal S1x224x224 .f32) (y x : Fin 222) (ha : a.toNat ≤ 2) (hb : b.toNat ≤ 2) :
    k0_pay9 a b w (ix2 y x) = w (ix3 (0 : Fin 1) (⟨a.toNat + y.val, by omega⟩ : Fin 224) (⟨b.toNat + x.val, by omega⟩ : Fin 224)) := by
  pointwise [k0_pay9]
  rcases small_word ha with rfl | rfl | rfl <;> rcases small_word hb with rfl | rfl | rfl <;>
    simp [Scalar.select, IntOp.cmpi] <;> (first | rfl | (refine congrArg w ?_; funext k; fin_cases k <;> refine Fin.ext ?_ <;> simp))

theorem operand_entry (i : grid0.Coords) (a2 : Vec Ideal S2x16x8x3 .i32) (g : Vec Ideal S96x224x224 .f32) (r : Fin 2) (l : Fin 8) (y x : Fin 222)
    (ha : (word i a2 r l 0).toNat ≤ 2) (hb : (word i a2 r l 1).toNat ≤ 2) :
    operand i a2 g r l (ix2 y x) = g (ix3 (⟨(word i a2 r l 2).toNat % 96, Nat.mod_lt _ (by decide)⟩ : Fin 96) (⟨(word i a2 r l 0).toNat + y.val, by omega⟩ : Fin 224)
      (⟨(word i a2 r l 1).toNat + x.val, by omega⟩ : Fin 224)) := by
  unfold operand
  rw [pay9_entry _ _ _ y x ha hb]
  rfl

end Cert.KernelIdeal.Hand
end
-- ==== Proof.ValueGate.lean ====
/- The leaves' gates, entry by entry. -/
module

public import proofs.«01_k».proof.Proof.Entries
public import proofs.«01_k».proof.Proof.Places

@[expose] public section

set_option maxRecDepth 16384

noncomputable section
namespace Cert.KernelIdeal.Hand
open Idealize.ShloMosaic Idealize.ShloMosaic.TcCoe Idealize.ShloMosaic.Tactic
open Cert.KernelIdeal.Gen
open Cert.Hand

/-- A level's weights of one filter, as the kernel loads them. -/
def loaded {n : ℕ} (w : (⟨3, ![n, 1, 4]⟩ : Shape).Idx → EReal) (l : Fin n) (k : Fin 4) : EReal := shares (fun x => w (ix3 l (0 : Fin 1) x)) k

theorem gate_of {p0 d2 d1 d3 u v : EReal} {p : Fin 4 → EReal} {u' v' : EReal} (h0 : p0 = p 0) (h2 : d2 = p 2 - p 0) (h1 : d1 = p 1 - p 0)
    (h3 : d3 = p 0 - p 1 - p 2 + p 3) (hu : u = u') (hv : v = v') : p0 + d2 * u + v * (d1 + d3 * u) = gate p u' v' := by
  subst h0 h1 h2 h3 hu hv; rfl

theorem pay2_entry (w : FVec Ideal S8x1x4 .f32) (l : Fin 8) (k : Fin 4) : k0_pay2 (F := Ideal) w (ix2 l k) = loaded w l k := by
  pointwise [k0_pay2]
  rfl
theorem pay3_entry (w : FVec Ideal S8x1x4 .f32) (l : Fin 8) : k0_pay3 (F := Ideal) w (ix3 l (0 : Fin 1) (0 : Fin 1)) = loaded w l 0 := by
  rw [← pay2_entry]; pointwise [k0_pay3]
theorem pay6_entry (w : FVec Ideal S8x1x4 .f32) (l : Fin 8) : k0_pay6 (F := Ideal) w (ix3 l (0 : Fin 1) (0 : Fin 1)) = loaded w l 2 - loaded w l 0 := by
  rw [← pay2_entry, ← pay2_entry]; pointwise [k0_pay6, k0_pay5, k0_pay3]
theorem pay7_entry (w : FVec Ideal S8x1x4 .f32) (l : Fin 8) : k0_pay7 (F := Ideal) w (ix3 l (0 : Fin 1) (0 : Fin 1)) = loaded w l 1 - loaded w l 0 := by
  rw [← pay2_entry, ← pay2_entry]; pointwise [k0_pay7, k0_pay4, k0_pay3]
theorem pay8_entry (w : FVec Ideal S8x1x4 .f32) (l : Fin 8) : k0_pay8 (F := Ideal) w (ix3 l (0 : Fin 1) (0 : Fin 1)) = loaded w l 0 - loaded w l 1 - loaded w l 2 + loaded w l 3 := by
  rw [← pay2_entry, ← pay2_entry, ← pay2_entry, ← pay2_entry]; pointwise [k0_pay8, k0_pay3, k0_pay4, k0_pay5]

theorem gatePlane_entry (l : Fin 8) (w : FVec Ideal S8x1x4 .f32) (a b : FVec Ideal S222x222 .f32) (y x : Fin 222) :
    gatePlane (pick l (k0_pay3 w)) (pick l (k0_pay6 w)) (pick l (k0_pay7 w)) (pick l (k0_pay8 w)) a b (ix2 y x)
      = gate (loaded w l) (a (ix2 y x)) (b (ix2 y x)) := by
  have h : ∀ p0 p1 p2 p3 : FVec Ideal S8x1x1 .f32, gatePlane (pick l p0) (pick l p1) (pick l p2) (pick l p3) a b (ix2 y x)
      = (p0 (ix3 l (0 : Fin 1) (0 : Fin 1)) + p1 (ix3 l (0 : Fin 1) (0 : Fin 1)) * a (ix2 y x) + b (ix2 y x) * (p2 (ix3 l (0 : Fin 1) (0 : Fin 1)) + p3 (ix3 l (0 : Fin 1) (0 : Fin 1)) * a (ix2 y x)) : EReal) := fun p0 p1 p2 p3 => by
    pointwise [gatePlane, pick]
  rw [h, pay3_entry, pay6_entry, pay7_entry, pay8_entry]
  rfl

end Cert.KernelIdeal.Hand
end
-- ==== Proof.ValueUpper.lean ====
/- The upper levels' gates, entry by entry. -/
module

public import proofs.«01_k».proof.Proof.ValueGate

@[expose] public section

set_option maxRecDepth 16384

noncomputable section
namespace Cert.KernelIdeal.Hand
open Idealize.ShloMosaic Idealize.ShloMosaic.TcCoe Idealize.ShloMosaic.Tactic
open Cert.KernelIdeal.Gen
open Cert.Hand

theorem pay45_entry (w : FVec Ideal S4x1x4 .f32) (l : Fin 4) (k : Fin 4) : k0_pay45 (F := Ideal) w (ix2 l k) = loaded w l k := by
  pointwise [k0_pay45]
  rfl
theorem pay53_entry (w : FVec Ideal S2x1x4 .f32) (l : Fin 2) (k : Fin 4) : k0_pay53 (F := Ideal) w (ix2 l k) = loaded w l k := by
  pointwise [k0_pay53]
  rfl
theorem pay46_entry (w : FVec Ideal S4x1x4 .f32) (l : Fin 4) : k0_pay46 (F := Ideal) w (ix3 l (0 : Fin 1) (0 : Fin 1)) = loaded w l 0 := by
  simp only [← pay45_entry]; pointwise [k0_pay46]
theorem pay47_entry (w : FVec Ideal S4x1x4 .f32) (l : Fin 4) : k0_pay47 (F := Ideal) w (ix3 l (0 : Fin 1) (0 : Fin 1)) = loaded w l 1 := by
  simp only [← pay45_entry]; pointwise [k0_pay47, k0_pay46]
theorem pay48_entry (w : FVec Ideal S4x1x4 .f32) (l : Fin 4) : k0_pay48 (F := Ideal) w (ix3 l (0 : Fin 1) (0 : Fin 1)) = loaded w l 2 := by
  simp only [← pay45_entry]; pointwise [k0_pay48, k0_pay46]
theorem pay49_entry (w : FVec Ideal S4x1x4 .f32) (l : Fin 4) : k0_pay49 (F := Ideal) w (ix3 l (0 : Fin 1) (0 : Fin 1)) = loaded w l 3 := by
  simp only [← pay45_entry]; pointwise [k0_pay49, k0_pay46]

variable (v : FVec Ideal S8x222x222 .f32) (w5 : FVec Ideal S4x1x4 .f32) (w6 : FVec Ideal S2x1x4 .f32) (w7 : FVec Ideal S1x1x4 .f32)

/-- The second level's nodes over a place of the plane. -/
def second (y x : Fin 222) (n : Fin 4) : EReal := pair gate (loaded w5) (fun l : Fin 8 => v (ix3 l y x)) n

theorem pay51_entry (n : Fin 2) (y x : Fin 222) :
    k0_pay51 (F := Ideal) (k0_pay43 (F := Ideal) v) (k0_pay44 (F := Ideal) v) (k0_pay46 (F := Ideal) w5) (k0_pay47 (F := Ideal) w5) (k0_pay48 (F := Ideal) w5) (k0_pay49 (F := Ideal) w5) (ix3 n y x) = second v w5 y x ⟨2 * n.val, by omega⟩ := by
  have hp := pay46_entry w5; have hq := pay47_entry w5; have hr := pay48_entry w5; have hs := pay49_entry w5
  generalize k0_pay46 (F := Ideal) w5 = p at *; generalize k0_pay47 (F := Ideal) w5 = q at *; generalize k0_pay48 (F := Ideal) w5 = r at *; generalize k0_pay49 (F := Ideal) w5 = s at *
  pointwise [k0_pay51, k0_pay50, k0_pay43, k0_pay44, k0_pay42]
  have e0 : n.val * 2 = 2 * n.val := by omega
  have e1 : 2 * n.val * 2 = 2 * (2 * n.val) := by omega
  simp only [hp, hq, hr, hs, e0, e1]
  exact gate_of rfl rfl rfl rfl rfl rfl

theorem pay52_entry (n : Fin 2) (y x : Fin 222) :
    k0_pay52 (F := Ideal) (k0_pay43 (F := Ideal) v) (k0_pay44 (F := Ideal) v) (k0_pay46 (F := Ideal) w5) (k0_pay47 (F := Ideal) w5) (k0_pay48 (F := Ideal) w5) (k0_pay49 (F := Ideal) w5) (ix3 n y x) = second v w5 y x ⟨2 * n.val + 1, by omega⟩ := by
  have hp := pay46_entry w5; have hq := pay47_entry w5; have hr := pay48_entry w5; have hs := pay49_entry w5
  generalize k0_pay46 (F := Ideal) w5 = p at *; generalize k0_pay47 (F := Ideal) w5 = q at *; generalize k0_pay48 (F := Ideal) w5 = r at *; generalize k0_pay49 (F := Ideal) w5 = s at *
  pointwise [k0_pay52, k0_pay50, k0_pay43, k0_pay44, k0_pay42]
  have e0 : n.val * 2 = 2 * n.val := by omega
  have e1 : (2 * n.val + 1) * 2 = 2 * (2 * n.val + 1) := by omega
  simp only [hp, hq, hr, hs, e0, e1]
  exact gate_of rfl rfl rfl rfl rfl rfl

theorem pay56_entry (n : Fin 2) (y x : Fin 222) :
    k0_pay56 (F := Ideal) (k0_pay43 (F := Ideal) v) (k0_pay44 (F := Ideal) v) (k0_pay46 (F := Ideal) w5) (k0_pay47 (F := Ideal) w5) (k0_pay48 (F := Ideal) w5) (k0_pay49 (F := Ideal) w5) w6 (ix3 n y x)
      = loaded w6 n 0 + (loaded w6 n 2 - loaded w6 n 0) * second v w5 y x ⟨2 * n.val, by omega⟩ := by
  simp only [← pay53_entry, ← pay51_entry]
  pointwise [k0_pay56, k0_pay54, k0_pay55]

theorem pay57_entry (n : Fin 2) (y x : Fin 222) :
    k0_pay57 (F := Ideal) (k0_pay43 (F := Ideal) v) (k0_pay44 (F := Ideal) v) (k0_pay46 (F := Ideal) w5) (k0_pay47 (F := Ideal) w5) (k0_pay48 (F := Ideal) w5) (k0_pay49 (F := Ideal) w5) w6 (ix3 n y x)
      = (loaded w6 n 1 - loaded w6 n 0) + (loaded w6 n 0 - loaded w6 n 1 - loaded w6 n 2 + loaded w6 n 3) * second v w5 y x ⟨2 * n.val, by omega⟩ := by
  simp only [← pay53_entry, ← pay51_entry]
  pointwise [k0_pay57, k0_pay54, k0_pay55]

theorem pay58_entry (v613 v644 v648 : FVec Ideal S2x222x222 .f32) (y x : Fin 222) :
    k0_pay58 (F := Ideal) v613 v644 v648 w7 (ix2 y x) = gate (loaded w7 0) (HAdd.hAdd (α := EReal) (β := EReal) (γ := EReal) (v644 (ix3 (0 : Fin 2) y x)) (HMul.hMul (α := EReal) (β := EReal) (γ := EReal) (v613 (ix3 (0 : Fin 2) y x)) (v648 (ix3 (0 : Fin 2) y x))))
      (HAdd.hAdd (α := EReal) (β := EReal) (γ := EReal) (v644 (ix3 (1 : Fin 2) y x)) (HMul.hMul (α := EReal) (β := EReal) (γ := EReal) (v613 (ix3 (1 : Fin 2) y x)) (v648 (ix3 (1 : Fin 2) y x)))) := by
  pointwise [k0_pay58]
  exact gate_of rfl rfl rfl rfl rfl rfl

/-- The levels above the leaves are the tree's, at each place of the plane. -/
theorem upper_entry (y x : Fin 222) :
    upper (F := Ideal) v w5 w6 w7 (ix2 y x) = pair (n := 1) gate (loaded w7) (pair (n := 2) gate (loaded w6) (pair (n := 4) gate (loaded w5) (fun l : Fin 8 => v (ix3 l y x)))) 0 := by
  unfold upper
  rw [pay58_entry]
  simp only [pay56_entry, pay57_entry, pay52_entry]
  rfl

end Cert.KernelIdeal.Hand
end
-- ==== Proof.ValueKeep.lean ====
/- What the body stores: the last plane at every other row and column. -/
module

public import proofs.«01_k».proof.Proof.Entries
public import proofs.«01_k».proof.Proof.Places

@[expose] public section

set_option maxRecDepth 16384

noncomputable section
namespace Cert.KernelIdeal.Hand
open Idealize.ShloMosaic Idealize.ShloMosaic.TcCoe Idealize.ShloMosaic.Tactic
open Cert.KernelIdeal.Gen
open Cert.Hand

/-- A product with a row and a column of zeros and ones, each split into a value and what the value leaves over, keeps the one entry. -/
theorem one_entry {n m : ℕ} (R : Fin n → Fin m → EReal) (hR : ∀ i j, IsNum (R i j)) (S : Fin n → EReal) (T : Fin m → EReal) (a : Fin n) (b : Fin m)
    (hS : ∀ i, S i = if i = a then 1 else 0) (hT : ∀ j, T j = if j = b then 1 else 0) :
    ∑ i, S i * (∑ j, R i j * T j + ∑ j, (R i j - R i j) * T j)
      + ∑ i, S i * ((∑ j, R i j * T j + ∑ j, (R i j - R i j) * T j) - (∑ j, R i j * T j + ∑ j, (R i j - R i j) * T j)) = R a b := by
  have hz : ∀ i j, R i j - R i j = 0 := fun i j => by
    obtain ⟨r, hr⟩ := hR i j
    rw [hr, ← EReal.coe_sub, sub_self]; rfl
  have hi : ∀ i, ∑ j, R i j * T j + ∑ j, (R i j - R i j) * T j = R i b := fun i => by
    simp [hz, hT]
  simp only [hi]
  simp only [hz, hS]
  simp

theorem mark (n a : ℕ) (hn : n < 2 ^ 31) (ha : a < 2 ^ 31) (e : BitVec 1) (he : e = BitVec.ofBool (decide (n = a))) :
    (FloatOps.sitofp (F := Ideal) FTy.f32 (BitVec.setWidth 32 e) : EReal) = if n = a then 1 else 0 := by
  subst he
  by_cases h : n = a
  · simp only [h, decide_true, if_true]
    show (((BitVec.setWidth 32 (BitVec.ofBool true)).toInt : ℝ) : EReal) = 1
    have : (BitVec.setWidth 32 (BitVec.ofBool true)).toInt = 1 := by decide
    rw [this]; simp
  · simp only [h, decide_false, if_false]
    show (((BitVec.setWidth 32 (BitVec.ofBool false)).toInt : ℝ) : EReal) = 0
    have : (BitVec.setWidth 32 (BitVec.ofBool false)).toInt = 0 := by decide
    rw [this]; simp

theorem same_word (n a : ℕ) (hn : n < 2 ^ 32) (ha : a < 2 ^ 32) : IntOp.cmpi CmpIPredicate.eq (BitVec.ofNat 32 n) (BitVec.ofNat 32 a) = BitVec.ofBool (decide (n = a)) := by
  show BitVec.ofBool (BitVec.ofNat 32 n == BitVec.ofNat 32 a) = _
  congr 1
  by_cases h : n = a
  · simp [h]
  · have : BitVec.ofNat 32 n ≠ BitVec.ofNat 32 a := fun e => h (by
      have := congrArg BitVec.toNat e
      simp only [BitVec.toNat_ofNat] at this
      rwa [Nat.mod_eq_of_lt hn, Nat.mod_eq_of_lt ha] at this)
    simp [h, this]

theorem twice (y : ℕ) : IntOp.muli 2#32 (BitVec.ofNat 32 y) = BitVec.ofNat 32 (2 * y) := by
  show 2#32 * BitVec.ofNat 32 y = _
  rw [BitVec.ofNat_mul]

/-- What the body stores is the last plane at twice the row and twice the column. -/
theorem keep_entry (R : FVec Ideal S222x222 .f32) (hR : ∀ y x, IsNum (R (ix2 y x))) (y x : Fin 111) :
    k0_pay1 R (iota .tc S222x111 32 [0] iota_S222x111_d0_w32) (k0_pay59 (F := Ideal)) k0_pay60 (ix4 (0 : Fin 1) (0 : Fin 1) y x)
      = R (ix2 (⟨2 * y.val, by omega⟩ : Fin 222) (⟨2 * x.val, by omega⟩ : Fin 222)) := by
  pointwise [k0_pay1, k0_pay59, k0_pay60]
  refine one_entry (fun i j => R (ix2 i j)) hR _ _ _ _ (fun i => ?_) (fun j => ?_)
  · rw [twice, mark (2 * y.val) i.val (by omega) (by omega) _ (same_word _ _ (by omega) (by omega))]
    simp only [Fin.ext_iff]
    exact if_congr eq_comm rfl rfl
  · rw [twice, mark j.val (2 * x.val) (by omega) (by omega) _ (same_word _ _ (by omega) (by omega))]
    simp only [Fin.ext_iff]

end Cert.KernelIdeal.Hand
end
-- ==== Proof.KernelTree.lean ====
/- What the kernel's run leaves in the result on drawn inputs: the tree of gates. -/
module

public import proofs.«01_k».proof.Proof.Entries
public import proofs.«01_k».proof.Proof.Drawn
public import proofs.«01_k».proof.Proof.ValueLeaf
public import proofs.«01_k».proof.Proof.ValueGate
public import proofs.«01_k».proof.Proof.ValueUpper
public import proofs.«01_k».proof.Proof.ValueKeep

@[expose] public section

set_option maxRecDepth 16384

noncomputable section
namespace Cert.KernelIdeal.Hand
open Idealize.ShloMosaic Idealize.ShloMosaic.TcCoe Idealize.ShloMosaic.Tactic
open Cert.KernelIdeal.Gen
open Cert.Hand

variable (m : (ℓ : Loc nD τ sig) → Buf (Elt Ideal) ℓ)

/-- The inputs of the kernel are drawn. -/
abbrev DrawnKernel (c : Dev nD) : Prop := Drawn (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

/-- The filter a step works on. -/
abbrev fil (t : Fin cfg0.N) : Fin 16 := ⟨(grid0.coords t 1).val, (grid0.coords t 1).isLt⟩

theorem off_row : ∀ t : Fin grid0.N, (k0_off2 (grid0.coords t) 1 = (grid0.coords t 1).val ∧ k0_off67 (grid0.coords t) 1 = (grid0.coords t 1).val)
    ∧ k0_off68 (grid0.coords t) 1 = (grid0.coords t 1).val ∧ k0_off69 (grid0.coords t) 1 = (grid0.coords t 1).val := by
  decide +kernel

theorem load1 (c : Dev nD) (t : Fin cfg0.N) : loaded (leafWeights (grid0.coords t) (iblk m c 1 t)) = levelShares (m ((c : Thread nD τ).loc main_arg1)) (fil t) := by
  funext l k
  unfold loaded levelShares
  refine congrArg (fun w => shares w k) (funext fun x => ?_)
  refine Eq.trans ?_ (weights1_entry m c t l (fil t) x)
  unfold leafWeights
  refine congrArg (iblk m c 1 t) ?_
  have h := (off_row t).1.1
  funext a
  fin_cases a <;> refine Fin.ext ?_ <;> simp
  · rfl
  · exact h
  · rfl

theorem load2 (c : Dev nD) (t : Fin cfg0.N) :
    loaded (fun x => iblk m c 2 t ((Rect.unit (s := S4x16x4) (k0_off67 (grid0.coords t)) S4x1x4.size (k0_off67_inb (grid0.coords t))).emb x)) = levelShares (m ((c : Thread nD τ).loc main_arg2)) (fil t) := by
  funext l k
  unfold loaded levelShares
  refine congrArg (fun w => shares w k) (funext fun x => ?_)
  refine Eq.trans ?_ (weights2_entry m c t l (fil t) x)
  refine congrArg (iblk m c 2 t) ?_
  have h := (off_row t).1.2
  funext a
  fin_cases a <;> refine Fin.ext ?_ <;> simp
  · rfl
  · exact h
  · rfl

theorem load3 (c : Dev nD) (t : Fin cfg0.N) :
    loaded (fun x => iblk m c 3 t ((Rect.unit (s := S2x16x4) (k0_off68 (grid0.coords t)) S2x1x4.size (k0_off68_inb (grid0.coords t))).emb x)) = levelShares (m ((c : Thread nD τ).loc main_arg3)) (fil t) := by
  funext l k
  unfold loaded levelShares
  refine congrArg (fun w => shares w k) (funext fun x => ?_)
  refine Eq.trans ?_ (weights3_entry m c t l (fil t) x)
  refine congrArg (iblk m c 3 t) ?_
  have h := (off_row t).2.1
  funext a
  fin_cases a <;> refine Fin.ext ?_ <;> simp
  · rfl
  · exact h
  · rfl

theorem load4 (c : Dev nD) (t : Fin cfg0.N) :
    loaded (fun x => iblk m c 4 t ((Rect.unit (s := S1x16x4) (k0_off69 (grid0.coords t)) S1x1x4.size (k0_off69_inb (grid0.coords t))).emb x)) = levelShares (m ((c : Thread nD τ).loc main_arg4)) (fil t) := by
  funext l k
  unfold loaded levelShares
  refine congrArg (fun w => shares w k) (funext fun x => ?_)
  refine Eq.trans ?_ (weights4_entry m c t l (fil t) x)
  refine congrArg (iblk m c 4 t) ?_
  have h := (off_row t).2.2
  funext a
  fin_cases a <;> refine Fin.ext ?_ <;> simp
  · rfl
  · exact h
  · rfl

theorem leaf_entry (i : grid0.Coords) (a2 : Vec Ideal S2x16x8x3 .i32) (a4 : Vec Ideal S8x16x4 .f32) (g : Vec Ideal S96x224x224 .f32) (l : Fin 8) (y x : Fin 222) :
    leaf i a2 a4 g l (ix3 (0 : Fin 1) y x) = gate (loaded (leafWeights i a4) l) (operand i a2 g 0 l (ix2 y x)) (operand i a2 g 1 l (ix2 y x)) := by
  unfold leaf
  rw [← gatePlane_entry]
  pointwise

/-- The plane of the last gate is the tree over the operands' planes. -/
theorem root_entry (i : grid0.Coords) (a2 : Vec Ideal S2x16x8x3 .i32) (a4 : Vec Ideal S8x16x4 .f32) (a5 : Vec Ideal S4x16x4 .f32) (a6 : Vec Ideal S2x16x4 .f32)
    (a7 : Vec Ideal S1x16x4 .f32) (g : Vec Ideal S96x224x224 .f32) (y x : Fin 222) :
    root i a2 a4 a5 a6 a7 g (ix2 y x) = tree gate (loaded (leafWeights i a4))
      (loaded (fun x => a5 ((Rect.unit (s := S4x16x4) (k0_off67 i) S4x1x4.size (k0_off67_inb i)).emb x)))
      (loaded (fun x => a6 ((Rect.unit (s := S2x16x4) (k0_off68 i) S2x1x4.size (k0_off68_inb i)).emb x)))
      (loaded (fun x => a7 ((Rect.unit (s := S1x16x4) (k0_off69 i) S1x1x4.size (k0_off69_inb i)).emb x)))
      (fun r l => operand i a2 g r l (ix2 y x)) := by
  unfold root
  rw [upper_entry]
  unfold tree
  refine congrArg (fun v => pair gate _ (pair gate _ (pair gate _ v)) 0) (funext fun l => ?_)
  exact leaf_entry i a2 a4 g l y x

variable {m} {c : Dev nD} (h : DrawnKernel m c) (t : Fin cfg0.N)
include h

theorem word_corner (r : Fin 2) (l : Fin 8) (k : Fin 3) :
    (word (F := Ideal) (grid0.coords t) (iblk m c 0 t) r l k).toNat = corner (m ((c : Thread nD τ).loc main_arg5)) (fil t) r l k := by
  unfold corner
  rw [← words_entry m c t r (fil t) l k]
  rfl

theorem corner_row (r : Fin 2) (l : Fin 8) : corner (m ((c : Thread nD τ).loc main_arg5)) (fil t) r l 0 ≤ 2 := h.row_le r (fil t) l

theorem corner_col (r : Fin 2) (l : Fin 8) : corner (m ((c : Thread nD τ).loc main_arg5)) (fil t) r l 1 ≤ 2 := h.col_le r (fil t) l

theorem corner_chan (r : Fin 2) (l : Fin 8) : corner (m ((c : Thread nD τ).loc main_arg5)) (fil t) r l 2 ≤ 95 := h.chan_le r (fil t) l

/-- An operand's plane holds entries of the image. -/
theorem operand_image (r : Fin 2) (l : Fin 8) (y x : Fin 222) :
    operand (F := Ideal) (grid0.coords t) (iblk m c 0 t) (img c (V m c main_call0_v0) (bat (grid0.coords t))) r l (ix2 y x)
      = m ((c : Thread nD τ).loc main_arg0) (ix4 (bat (grid0.coords t)) (⟨corner (m ((c : Thread nD τ).loc main_arg5)) (fil t) r l 2 % 96, Nat.mod_lt _ (by decide)⟩ : Fin 96)
        (⟨(corner (m ((c : Thread nD τ).loc main_arg5)) (fil t) r l 0 + y.val) % 224, Nat.mod_lt _ (by decide)⟩ : Fin 224)
        (⟨(corner (m ((c : Thread nD τ).loc main_arg5)) (fil t) r l 1 + x.val) % 224, Nat.mod_lt _ (by decide)⟩ : Fin 224)) := by
  have h0 := corner_row h t r l
  have h1 := corner_col h t r l
  rw [operand_entry _ _ _ r l y x (by rw [word_corner h]; exact h0) (by rw [word_corner h]; exact h1), img_entry]
  refine congrArg (m ((c : Thread nD τ).loc main_arg0)) ?_
  have hy := y.isLt
  have hx := x.isLt
  congr 1 <;> refine Fin.ext ?_ <;> simp only [word_corner h t]
  · rw [Nat.mod_eq_of_lt]; omega
  · rw [Nat.mod_eq_of_lt]; omega

theorem root_tree (y x : Fin 222) :
    root (F := Ideal) (grid0.coords t) (iblk m c 0 t) (iblk m c 1 t) (iblk m c 2 t) (iblk m c 3 t) (iblk m c 4 t) (img c (V m c main_call0_v0) (bat (grid0.coords t))) (ix2 y x)
      = tree blend (levelShares (m ((c : Thread nD τ).loc main_arg1)) (fil t)) (levelShares (m ((c : Thread nD τ).loc main_arg2)) (fil t))
          (levelShares (m ((c : Thread nD τ).loc main_arg3)) (fil t)) (levelShares (m ((c : Thread nD τ).loc main_arg4)) (fil t))
          (fun r l => operand (F := Ideal) (grid0.coords t) (iblk m c 0 t) (img c (V m c main_call0_v0) (bat (grid0.coords t))) r l (ix2 y x))
      ∧ IsNum (root (F := Ideal) (grid0.coords t) (iblk m c 0 t) (iblk m c 1 t) (iblk m c 2 t) (iblk m c 3 t) (iblk m c 4 t) (img c (V m c main_call0_v0) (bat (grid0.coords t))) (ix2 y x)) := by
  rw [root_entry, load1, load2, load3, load4]
  refine tree_eq ?_ ?_ ?_ ?_ ?_
  · exact fun l k => shares_fin (fun x => h.w0_num l (fil t) x) k
  · exact fun l k => shares_fin (fun x => h.w1_num l (fil t) x) k
  · exact fun l k => shares_fin (fun x => h.w2_num l (fil t) x) k
  · exact fun l k => shares_fin (fun x => h.w3_num l (fil t) x) k
  · intro r l
    rw [operand_image h]
    exact h.x_num _ _ _ _

/-- What a step writes is the tree over the image's entries. -/
theorem outAt_tree (y x : Fin 111) :
    outAt m c t (ix4 (0 : Fin 1) (0 : Fin 1) y x)
      = tree blend (levelShares (m ((c : Thread nD τ).loc main_arg1)) (fil t)) (levelShares (m ((c : Thread nD τ).loc main_arg2)) (fil t))
          (levelShares (m ((c : Thread nD τ).loc main_arg3)) (fil t)) (levelShares (m ((c : Thread nD τ).loc main_arg4)) (fil t))
          (leafAt (m ((c : Thread nD τ).loc main_arg0)) (m ((c : Thread nD τ).loc main_arg5)) (bat (grid0.coords t)) (fil t) y x) := by
  unfold outAt stored
  rw [keep_entry _ (fun y x => (root_tree h t y x).2), (root_tree h t _ _).1]
  refine congrArg (tree blend _ _ _ _) (funext fun r => funext fun l => ?_)
  rw [operand_image h]
  rfl

end Cert.KernelIdeal.Hand
end
-- ==== Proof.KernelResult.lean ====
/- The kernel's run on drawn inputs ends with the tree of gates in the result's array. -/
module

public import proofs.«01_k».proof.Proof.KernelTree

@[expose] public section

set_option maxRecDepth 16384

noncomputable section
namespace Cert.KernelIdeal.Hand
open Idealize.ShloMosaic Idealize.ShloMosaic.TcCoe Idealize.ShloMosaic.Tactic
open Cert.KernelIdeal.Gen
open Cert.Hand
open Idealize.SL.Sem

variable (m : (ℓ : Loc nD τ sig) → Buf (Elt Ideal) ℓ) (ρ : Dev nD → PrngReg)

/-- The result: the tree of gates over the image's entries. -/
def whole (c : Dev nD) : Buf (Elt Ideal) ((c : Thread nD τ).loc main_v0) := fun (i : S2x16x111x111.Idx) =>
  tree blend (levelShares (m ((c : Thread nD τ).loc main_arg1)) (i 1)) (levelShares (m ((c : Thread nD τ).loc main_arg2)) (i 1))
    (levelShares (m ((c : Thread nD τ).loc main_arg3)) (i 1)) (levelShares (m ((c : Thread nD τ).loc main_arg4)) (i 1))
    (leafAt (m ((c : Thread nD τ).loc main_arg0)) (m ((c : Thread nD τ).loc main_arg5)) (i 0) (i 1) (i 2) (i 3))

theorem whole_entry (c : Dev nD) (b : Fin 2) (o : Fin 16) (y x : Fin 111) : whole m c (ix4 b o y x)
    = tree blend (levelShares (m ((c : Thread nD τ).loc main_arg1)) o) (levelShares (m ((c : Thread nD τ).loc main_arg2)) o)
      (levelShares (m ((c : Thread nD τ).loc main_arg3)) o) (levelShares (m ((c : Thread nD τ).loc main_arg4)) o)
      (leafAt (m ((c : Thread nD τ).loc main_arg0)) (m ((c : Thread nD τ).loc main_arg5)) b o y x) := rfl

theorem named_of_drawn (h : ∀ c, DrawnKernel m c) : Named m := fun c t r l => by
  rw [word_corner (h c) t r l 2]
  exact lt_of_le_of_lt (corner_chan (h c) t r l) (by decide)

theorem place5 : ∀ t : Fin grid0.N, win0_5.index t = ![(grid0.coords t 0).val, (grid0.coords t 1).val, 0, 0] := by decide +kernel

/-- Every step leaves its block of the result, and the blocks fill the array. -/
theorem array_whole (c : Dev nD) (h : DrawnKernel m c) : (dats m 0 c).arrAt 5 cfg0.N = whole m c := by
  refine (dats m 0 c).arrAt_eq_of_covers 5 _ (by decide +kernel) fun t _ y => ?_
  have e0 := place5 t
  blk_simp
  rw [after_5]
  obtain ⟨a0, a1, y2, x2, hy⟩ : ∃ (a0 a1 : Fin 1) (y2 x2 : Fin 111), y = ix4 a0 a1 y2 x2 := ⟨y 0, y 1, y 2, y 3, by funext a; fin_cases a <;> rfl⟩
  subst hy
  obtain rfl : a0 = 0 := Subsingleton.elim _ _
  obtain rfl : a1 = 0 := Subsingleton.elim _ _
  refine (outAt_tree h t y2 x2).trans ?_
  refine (whole_entry m c (bat (grid0.coords t)) (fil t) y2 x2).symm.trans (congrArg (whole m c) ?_)
  funext a; fin_cases a <;> refine Fin.ext ?_ <;> blk_simp [e0]
  all_goals first | rfl | (simp; done) | omega

/-- The kernel's run on drawn inputs: the result is the tree, the arguments are as before. -/
theorem run_whole (h : ∀ c, DrawnKernel m c) : θ_run defs (onTc (τ := τ) (main (F := Ideal))) ⟨m, fun _ => 0, ρ⟩ (fun r => ∀ c : Dev nD,
      r.2.mem ((c.tc : Thread nD τ).loc main_v0) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ g c =>
    ⟨((g.1 c).1 5).trans (array_whole m c (h c)),
      ((g.1 c).2 main_arg0 (Pipeline.mem_restRefs_of main_arg0 (by decide) (by decide))).trans (V_main_arg0 m c),
      ((g.1 c).1 1).trans (((dats m 0 c).arrAt_in 1 rfl _).trans ((A_eq m c 1).trans (V_main_arg1 m c))),
      ((g.1 c).1 2).trans (((dats m 0 c).arrAt_in 2 rfl _).trans ((A_eq m c 2).trans (V_main_arg2 m c))),
      ((g.1 c).1 3).trans (((dats m 0 c).arrAt_in 3 rfl _).trans ((A_eq m c 3).trans (V_main_arg3 m c))),
      ((g.1 c).1 4).trans (((dats m 0 c).arrAt_in 4 rfl _).trans ((A_eq m c 4).trans (V_main_arg4 m c))),
      ((g.1 c).2 main_arg5 (Pipeline.mem_restRefs_of main_arg5 (by decide) (by decide))).trans (V_main_arg5 m c),
      ((g.1 c).2 main_arg6 (Pipeline.mem_restRefs_of main_arg6 (by decide) (by decide))).trans (V_main_arg6 m c),
      ((g.1 c).2 main_arg7 (Pipeline.mem_restRefs_of main_arg7 (by decide) (by decide))).trans (V_main_arg7 m c),
      ((g.1 c).2 main_arg8 (Pipeline.mem_restRefs_of main_arg8 (by decide) (by decide))).trans (V_main_arg8 m c)⟩) (run_main m ρ (named_of_drawn m h))

end Cert.KernelIdeal.Hand
end
-- ==== Proof.Gathers.lean ====
/- The two kinds of gather the reference makes, read at one entry. -/
module

public import Idealize.ShloMosaic.Lib.Pointwise

@[expose] public section

set_option maxRecDepth 16384

noncomputable section
namespace Cert.Hand
open Idealize.ShloMosaic

/-- Rows of `[2, 16, N]` read along the last axis at the words of `[2, M, 1]`. -/
abbrev alongDims (N M : ℕ) (wf : GatherDims.WF ⟨3, ![2, 16, N]⟩ ⟨3, ![2, M, 1]⟩ ⟨4, ![2, 16, 2, M]⟩ [0, 1] [2] [] [2] [] 2 ![2, 16, 1]) :
    GatherDims ⟨3, ![2, 16, N]⟩ ⟨3, ![2, M, 1]⟩ ⟨4, ![2, 16, 2, M]⟩ where
  offsetDims := [0, 1]
  collapsedSliceDims := [2]
  operandBatchingDims := []
  startIndicesBatchingDims := []
  startIndexMap := [2]
  indexVectorDim := 2
  sliceSizes := ![2, 16, 1]
  wf := wf

theorem gather_along {α : Type} {N M : ℕ} (wf : GatherDims.WF ⟨3, ![2, 16, N]⟩ ⟨3, ![2, M, 1]⟩ ⟨4, ![2, 16, 2, M]⟩ [0, 1] [2] [] [2] [] 2 ![2, 16, 1])
    (x : (⟨3, ![2, 16, N]⟩ : Shape).Idx → α) (idx : IVec ⟨3, ![2, M, 1]⟩ 32) (b : Fin 2) (o : Fin 16) (r : Fin 2) (p : Fin M) (q : Fin N)
    (hq : (idx (ix3 r p 0)).toInt.toNat = q.val) :
    Host.gather (alongDims N M wf) x idx (ix4 b o r p) = x (ix3 b o q) := by
  unfold Host.gather
  refine congrArg x (funext fun a => Fin.ext ?_)
  show (alongDims N M wf).start (ix4 b o r p) idx a + (alongDims N M wf).batchCoord (ix4 b o r p) a + (alongDims N M wf).offCoord (ix4 b o r p) a = _
  rw [GatherDims.batchCoord_eq_zero _ _ _ List.not_mem_nil]
  match a with
  | ⟨0, _⟩ => exact Nat.zero_add _
  | ⟨1, _⟩ => exact Nat.zero_add _
  | ⟨2, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨2, by decide⟩ : Fin 3) ∈ (alongDims N M wf).startIndexMap from List.mem_singleton.mpr rfl)]
    have hsi : (alongDims N M wf).siIdx (ix4 b o r p) ⟨List.idxOf (2 : Fin 3) (alongDims N M wf).startIndexMap,
        List.idxOf_lt_length_iff.2 (List.mem_singleton.mpr rfl)⟩ = ix3 r p 0 := by
      funext b; refine Fin.ext ?_
      match b with
      | ⟨0, _⟩ => rfl
      | ⟨1, _⟩ => rfl
      | ⟨2, _⟩ => rfl
    refine (congrArg (fun z => min (idx z).toInt.toNat (N - 1)) hsi).trans ?_
    show min (idx (ix3 r p 0)).toInt.toNat (N - 1) = q.val
    rw [hq]; omega

/-- The image read at the channel, row and column words of each tap. -/
abbrev tapDims (wf : GatherDims.WF ⟨4, ![2, 96, 224, 224]⟩ ⟨4, ![2, 16, 98568, 3]⟩ ⟨4, ![2, 2, 16, 98568]⟩ [0] [1, 2, 3] [] [1, 2, 3] [] 3 ![2, 1, 1, 1]) :
    GatherDims ⟨4, ![2, 96, 224, 224]⟩ ⟨4, ![2, 16, 98568, 3]⟩ ⟨4, ![2, 2, 16, 98568]⟩ where
  offsetDims := [0]
  collapsedSliceDims := [1, 2, 3]
  operandBatchingDims := []
  startIndicesBatchingDims := []
  startIndexMap := [1, 2, 3]
  indexVectorDim := 3
  sliceSizes := ![2, 1, 1, 1]
  wf := wf

theorem gather_tap {α : Type} (wf : GatherDims.WF ⟨4, ![2, 96, 224, 224]⟩ ⟨4, ![2, 16, 98568, 3]⟩ ⟨4, ![2, 2, 16, 98568]⟩ [0] [1, 2, 3] [] [1, 2, 3] [] 3 ![2, 1, 1, 1])
    (x : (⟨4, ![2, 96, 224, 224]⟩ : Shape).Idx → α) (idx : IVec ⟨4, ![2, 16, 98568, 3]⟩ 32) (b r : Fin 2) (o : Fin 16) (p : Fin 98568)
    (c : Fin 96) (h w : Fin 224) (hc : (idx (ix4 r o p 0)).toInt.toNat = c.val) (hh : (idx (ix4 r o p 1)).toInt.toNat = h.val)
    (hw : (idx (ix4 r o p 2)).toInt.toNat = w.val) :
    Host.gather (tapDims wf) x idx (ix4 b r o p) = x (ix4 b c h w) := by
  unfold Host.gather
  refine congrArg x (funext fun a => Fin.ext ?_)
  show (tapDims wf).start (ix4 b r o p) idx a + (tapDims wf).batchCoord (ix4 b r o p) a + (tapDims wf).offCoord (ix4 b r o p) a = _
  rw [GatherDims.batchCoord_eq_zero _ _ _ List.not_mem_nil]
  have hsi : ∀ k : Fin 3, (tapDims wf).siIdx (ix4 b r o p) k = ix4 r o p k := fun k => by
    funext b; refine Fin.ext ?_
    match b with
    | ⟨0, _⟩ => rfl
    | ⟨1, _⟩ => rfl
    | ⟨2, _⟩ => rfl
    | ⟨3, _⟩ => rfl
  match a with
  | ⟨0, _⟩ => exact Nat.zero_add _
  | ⟨1, _⟩ =>
    rw [GatherDims.offCoord_eq_zero _ _ _ (show (1 : Fin 4) ∉ [(0 : Fin 4)] by decide)]
    simp only [Nat.add_zero]
    refine (congrArg (fun z => min (idx z).toInt.toNat (96 - 1)) (hsi 0)).trans ?_
    show min (idx (ix4 r o p 0)).toInt.toNat (96 - 1) = c.val
    rw [hc]; omega
  | ⟨2, _⟩ =>
    rw [GatherDims.offCoord_eq_zero _ _ _ (show (2 : Fin 4) ∉ [(0 : Fin 4)] by decide)]
    simp only [Nat.add_zero]
    refine (congrArg (fun z => min (idx z).toInt.toNat (224 - 1)) (hsi 1)).trans ?_
    show min (idx (ix4 r o p 1)).toInt.toNat (224 - 1) = h.val
    rw [hh]; omega
  | ⟨3, _⟩ =>
    rw [GatherDims.offCoord_eq_zero _ _ _ (show (3 : Fin 4) ∉ [(0 : Fin 4)] by decide)]
    simp only [Nat.add_zero]
    refine (congrArg (fun z => min (idx z).toInt.toNat (224 - 1)) (hsi 2)).trans ?_
    show min (idx (ix4 r o p 2)).toInt.toNat (224 - 1) = w.val
    rw [hw]; omega

/-- A word that reads below half the range is kept by the wrap of negative indices. -/
theorem kept_word {v : BitVec 32} (k : BitVec 32) (hv : v.toNat < 2 ^ 31) :
    Scalar.select (IntOp.cmpi CmpIPredicate.slt v 0#32) (IntOp.addi v k) v = v := by
  have : IntOp.cmpi CmpIPredicate.slt v 0#32 = 0#1 := by
    have hs : BitVec.slt v 0#32 = false := by
      simp only [BitVec.slt, BitVec.toInt, decide_eq_false_iff_not]
      have := v.isLt
      simp; omega
    show BitVec.ofBool (BitVec.slt v 0#32) = 0#1
    rw [hs]; rfl
  rw [this]; rfl

theorem toInt_word {v : BitVec 32} (hv : v.toNat < 2 ^ 31) : v.toInt.toNat = v.toNat := by
  have : v.toInt = v.toNat := by rw [BitVec.toInt_eq_toNat_of_lt (by omega)]
  rw [this]; rfl

end Cert.Hand
end
-- ==== Proof.RefShares.lean ====
/- The reference's weights as shares. -/
module

public import proofs.«01_k».proof.Proof.Gen.ReferenceIdeal.Run
public import proofs.«01_k».proof.Proof.Gates
public import proofs.«01_k».proof.Proof.Gathers
public import Idealize.ShloMosaic.Lib.Pointwise
public import Idealize.ShloMosaic.Lib.Pipeline.ValueKit.Point
public import Idealize.ShloMosaic.Lib.Claim

@[expose] public section

set_option maxRecDepth 16384

noncomputable section
namespace Cert.ReferenceIdeal.Hand
open Idealize.ShloMosaic Idealize.ShloMosaic.TcCoe Idealize.ShloMosaic.Tactic
open Cert.ReferenceIdeal Cert.ReferenceIdeal.Gen Cert.ReferenceIdeal.Value
open Cert.Hand

variable (V0 : Valuation τ sig (Elt Ideal))

/-- The host's maximum along the last axis as a fold over that axis. -/
theorem fold_last {N : ℕ} (h' : (⟨3, ![N, 16, 4]⟩ : Shape).ReducesTo [2] ⟨2, ![N, 16]⟩) (h : (⟨3, ![N, 16, 4]⟩ : Shape).Reduces [2] ⟨2, ![N, 16]⟩)
    (x : (⟨3, ![N, 16, 4]⟩ : Shape).Idx → EReal) (e : EReal) (l : Fin N) (o : Fin 16) :
    Finset.fold max e x (Finset.univ.filter fun i => h'.drop i = ix2 l o) = Finset.fold max e (fun k => x (ix3 l o k)) Finset.univ := by
  rw [Shape.ReducesTo.drop_eq_drop h' h]
  refine (h.fold_filter_drop_single _ _ x (ix2 l o)).trans ?_
  have hf : (x ∘ h.lift (ix2 l o)) = fun k : Fin 4 => x (ix3 l o k) := funext fun k => congrArg x (by
    funext a; fin_cases a <;> rfl)
  exact congrArg (fun f => Finset.fold max e f (Finset.univ : Finset (Fin 4))) hf

theorem v44_entry (o : Fin 16) (l : Fin 8) (k : Fin 4) :
    res_main_v44 V0 (ix3 o l k) = shares (fun x => V0 (Proc.devRef .tc main_arg1) (ix3 l o x)) k := by
  have h1 : ∀ x : Fin 4, res_main_v32 V0 (ix3 l o x) = V0 (Proc.devRef .tc main_arg1) (ix3 l o x) := fun x => by
    unfold res_main_v32; pointwise
    exact div_by_one _
  have h2 : ∀ x : Fin 4, res_main_v39 V0 (ix3 l o x) = Ideal.exp (HSub.hSub (α := EReal) (β := EReal) (γ := EReal) (res_main_v32 V0 (ix3 l o x)) (max lowest (Finset.fold max lowest (fun y => res_main_v32 V0 (ix3 l o y)) Finset.univ))) := fun x => by
    unfold res_main_v39; pointwise
    exact congrArg (fun z : EReal => Ideal.exp (HSub.hSub (α := EReal) (β := EReal) (γ := EReal) (res_main_v32 V0 (ix3 l o x)) (max lowest z)))
      (fold_last reducesTo_S8x16x4_S8x16_d2 (by decide) (res_main_v32 V0) lowest l o)
  unfold res_main_v44; pointwise
  simp only [h2, h1]
  rfl

theorem v107_entry (o : Fin 16) (l : Fin 4) (k : Fin 4) :
    res_main_v107 V0 (ix3 o l k) = shares (fun x => V0 (Proc.devRef .tc main_arg2) (ix3 l o x)) k := by
  have h1 : ∀ x : Fin 4, res_main_v95 V0 (ix3 l o x) = V0 (Proc.devRef .tc main_arg2) (ix3 l o x) := fun x => by
    unfold res_main_v95; pointwise
    exact div_by_one _
  have h2 : ∀ x : Fin 4, res_main_v102 V0 (ix3 l o x) = Ideal.exp (HSub.hSub (α := EReal) (β := EReal) (γ := EReal) (res_main_v95 V0 (ix3 l o x)) (max lowest (Finset.fold max lowest (fun y => res_main_v95 V0 (ix3 l o y)) Finset.univ))) := fun x => by
    unfold res_main_v102; pointwise
    exact congrArg (fun z : EReal => Ideal.exp (HSub.hSub (α := EReal) (β := EReal) (γ := EReal) (res_main_v95 V0 (ix3 l o x)) (max lowest z)))
      (fold_last reducesTo_S4x16x4_S4x16_d2 (by decide) (res_main_v95 V0) lowest l o)
  unfold res_main_v107; pointwise
  simp only [h2, h1]
  rfl

theorem v170_entry (o : Fin 16) (l : Fin 2) (k : Fin 4) :
    res_main_v170 V0 (ix3 o l k) = shares (fun x => V0 (Proc.devRef .tc main_arg3) (ix3 l o x)) k := by
  have h1 : ∀ x : Fin 4, res_main_v158 V0 (ix3 l o x) = V0 (Proc.devRef .tc main_arg3) (ix3 l o x) := fun x => by
    unfold res_main_v158; pointwise
    exact div_by_one _
  have h2 : ∀ x : Fin 4, res_main_v165 V0 (ix3 l o x) = Ideal.exp (HSub.hSub (α := EReal) (β := EReal) (γ := EReal) (res_main_v158 V0 (ix3 l o x)) (max lowest (Finset.fold max lowest (fun y => res_main_v158 V0 (ix3 l o y)) Finset.univ))) := fun x => by
    unfold res_main_v165; pointwise
    exact congrArg (fun z : EReal => Ideal.exp (HSub.hSub (α := EReal) (β := EReal) (γ := EReal) (res_main_v158 V0 (ix3 l o x)) (max lowest z)))
      (fold_last reducesTo_S2x16x4_S2x16_d2 (by decide) (res_main_v158 V0) lowest l o)
  unfold res_main_v170; pointwise
  simp only [h2, h1]
  rfl

theorem v233_entry (o : Fin 16) (k : Fin 4) :
    res_main_v233 V0 (ix3 o (0 : Fin 1) k) = shares (fun x => V0 (Proc.devRef .tc main_arg4) (ix3 (0 : Fin 1) o x)) k := by
  have h1 : ∀ x : Fin 4, res_main_v221 V0 (ix3 (0 : Fin 1) o x) = V0 (Proc.devRef .tc main_arg4) (ix3 (0 : Fin 1) o x) := fun x => by
    unfold res_main_v221; pointwise
    exact div_by_one _
  have h2 : ∀ x : Fin 4, res_main_v228 V0 (ix3 (0 : Fin 1) o x) = Ideal.exp (HSub.hSub (α := EReal) (β := EReal) (γ := EReal) (res_main_v221 V0 (ix3 (0 : Fin 1) o x)) (max lowest (Finset.fold max lowest (fun y => res_main_v221 V0 (ix3 (0 : Fin 1) o y)) Finset.univ))) := fun x => by
    unfold res_main_v228; pointwise
    exact congrArg (fun z : EReal => Ideal.exp (HSub.hSub (α := EReal) (β := EReal) (γ := EReal) (res_main_v221 V0 (ix3 (0 : Fin 1) o x)) (max lowest z)))
      (fold_last reducesTo_S1x16x4_S1x16_d2 (by decide) (res_main_v221 V0) lowest (0 : Fin 1) o)
  unfold res_main_v233; pointwise
  simp only [h2, h1]
  rfl

end Cert.ReferenceIdeal.Hand
end
-- ==== Proof.RefLevel1.lean ====
/- The reference's second level of gates. -/
module

public import proofs.«01_k».proof.Proof.Gen.ReferenceIdeal.Run
public import proofs.«01_k».proof.Proof.Gates
public import proofs.«01_k».proof.Proof.Gathers
public import Idealize.ShloMosaic.Lib.Pointwise
public import Idealize.ShloMosaic.Lib.Pipeline.ValueKit.Point
public import Idealize.ShloMosaic.Lib.Claim

@[expose] public section

set_option maxRecDepth 16384

noncomputable section
namespace Cert.ReferenceIdeal.Hand
open Idealize.ShloMosaic Idealize.ShloMosaic.TcCoe Idealize.ShloMosaic.Tactic
open Cert.ReferenceIdeal Cert.ReferenceIdeal.Gen Cert.ReferenceIdeal.Value
open Cert.Hand

variable (V0 : Valuation τ sig (Elt Ideal))

/-- One level's gates over any planes, gathered. -/
theorem level1 (w : FVec Ideal S16x8x4 .f32) (u v : FVec Ideal S2x16x8x12321 .f32) (a : IVec S2x49284 32) (b : Fin 2) (o : Fin 16) (r : Fin 2) (n : Fin 4) (p : Fin 12321)
    (h : (a (ix2 r (⟨n.val * 12321 + p.val, by omega⟩ : Fin 49284)) : BitVec 32).toNat = (2 * n.val + r.val) * 12321 + p.val) :
    (Host.gather gather_S2x16x98568_S2x49284x1_S2x16x2x49284_01_2_n_n_2_2_2161 (shapeCast _ (addf (addf (addf (mulf (mulf (broadcastInDim S2x16x8x12321 ![0, 1, 2, 3] bcast_S1x16x8x1_S2x16x8x12321_0_1_2_3 (broadcastInDim S1x16x8x1 ![1, 2] bcast_S16x8_S1x16x8x1_1_2 (shapeCast _ (extractStridedSlice S16x8x1 ![0, 0, 0] w slices_S16x8x4_S16x8x1_0_0_0) shapeCasts_S16x8x1_S16x8))) (subf (broadcastInDim S2x16x8x12321 ![] bcast_S_S2x16x8x12321 (constant S_ .f32 0x3F800000#32)) u)) (subf (broadcastInDim S2x16x8x12321 ![] bcast_S_S2x16x8x12321 (constant S_ .f32 0x3F800000#32)) v)) (mulf (mulf (broadcastInDim S2x16x8x12321 ![0, 1, 2, 3] bcast_S1x16x8x1_S2x16x8x12321_0_1_2_3 (broadcastInDim S1x16x8x1 ![1, 2] bcast_S16x8_S1x16x8x1_1_2 (shapeCast _ (extractStridedSlice S16x8x1 ![0, 0, 1] w slices_S16x8x4_S16x8x1_0_0_1) shapeCasts_S16x8x1_S16x8))) (subf (broadcastInDim S2x16x8x12321 ![] bcast_S_S2x16x8x12321 (constant S_ .f32 0x3F800000#32)) u)) v)) (mulf (mulf (broadcastInDim S2x16x8x12321 ![0, 1, 2, 3] bcast_S1x16x8x1_S2x16x8x12321_0_1_2_3 (broadcastInDim S1x16x8x1 ![1, 2] bcast_S16x8_S1x16x8x1_1_2 (shapeCast _ (extractStridedSlice S16x8x1 ![0, 0, 2] w slices_S16x8x4_S16x8x1_0_0_2) shapeCasts_S16x8x1_S16x8))) u) (subf (broadcastInDim S2x16x8x12321 ![] bcast_S_S2x16x8x12321 (constant S_ .f32 0x3F800000#32)) v))) (mulf (mulf (broadcastInDim S2x16x8x12321 ![0, 1, 2, 3] bcast_S1x16x8x1_S2x16x8x12321_0_1_2_3 (broadcastInDim S1x16x8x1 ![1, 2] bcast_S16x8_S1x16x8x1_1_2 (shapeCast _ (extractStridedSlice S16x8x1 ![0, 0, 3] w slices_S16x8x4_S16x8x1_0_0_3) shapeCasts_S16x8x1_S16x8))) u) v)) shapeCasts_S2x16x8x12321_S2x16x98568) (broadcastInDim S2x49284x1 ![0, 1] bcast_S2x49284_S2x49284x1_0_1 (select (cmpi .slt a (broadcastInDim S2x49284 ![] bcast_S_S2x49284 (constantI S_ 32 0#32))) (addi a (broadcastInDim S2x49284 ![] bcast_S_S2x49284 (constantI S_ 32 98568#32))) a))) (ix4 b o r (⟨n.val * 12321 + p.val, by omega⟩ : Fin 49284))
      = blend (fun k => w (ix3 o (⟨2 * n.val + r.val, by omega⟩ : Fin 8) k)) (u (ix4 b o (⟨2 * n.val + r.val, by omega⟩ : Fin 8) p)) (v (ix4 b o (⟨2 * n.val + r.val, by omega⟩ : Fin 8) p)) := by
  refine (gather_along _ _ _ b o r _ (⟨(2 * n.val + r.val) * 12321 + p.val, by omega⟩ : Fin 98568) ?_).trans ?_
  · pointwise
    have hv := h.trans_lt (show (2 * n.val + r.val) * 12321 + p.val < 2 ^ 31 by omega)
    rw [kept_word _ hv, toInt_word hv]
    exact h
  · pointwise
    have e : ((2 * n.val + r.val) * 12321 + p.val) / 12321 = 2 * n.val + r.val := by omega
    simp only [e]
    exact blend_of rfl rfl rfl rfl rfl rfl

theorem v87_entry (b : Fin 2) (o : Fin 16) (r : Fin 2) (n : Fin 4) (p : Fin 12321)
    (h : (V0 (Proc.devRef .tc main_arg6) (ix2 r (⟨n.val * 12321 + p.val, by omega⟩ : Fin 49284)) : BitVec 32).toNat = (2 * n.val + r.val) * 12321 + p.val) :
    res_main_v87 V0 (ix4 b o r (⟨n.val * 12321 + p.val, by omega⟩ : Fin 49284)) = blend (fun k => res_main_v44 V0 (ix3 o (⟨2 * n.val + r.val, by omega⟩ : Fin 8) k))
      (res_main_v28 V0 (ix4 b o (⟨2 * n.val + r.val, by omega⟩ : Fin 8) p)) (res_main_v30 V0 (ix4 b o (⟨2 * n.val + r.val, by omega⟩ : Fin 8) p)) :=
  level1 (res_main_v44 V0) (res_main_v28 V0) (res_main_v30 V0) (V0 (Proc.devRef .tc main_arg6)) b o r n p h

theorem v90_entry (b : Fin 2) (o : Fin 16) (n : Fin 4) (p : Fin 12321) :
    res_main_v90 V0 (ix4 b o n p) = res_main_v87 V0 (ix4 b o 0 (⟨n.val * 12321 + p.val, by omega⟩ : Fin 49284)) := by
  unfold res_main_v90; pointwise

theorem v93_entry (b : Fin 2) (o : Fin 16) (n : Fin 4) (p : Fin 12321) :
    res_main_v93 V0 (ix4 b o n p) = res_main_v87 V0 (ix4 b o 1 (⟨n.val * 12321 + p.val, by omega⟩ : Fin 49284)) := by
  unfold res_main_v93; pointwise

end Cert.ReferenceIdeal.Hand
end
-- ==== Proof.RefLevel2.lean ====
/- The reference's third level of gates. -/
module

public import proofs.«01_k».proof.Proof.Gen.ReferenceIdeal.Run
public import proofs.«01_k».proof.Proof.Gates
public import proofs.«01_k».proof.Proof.Gathers
public import Idealize.ShloMosaic.Lib.Pointwise
public import Idealize.ShloMosaic.Lib.Pipeline.ValueKit.Point
public import Idealize.ShloMosaic.Lib.Claim

@[expose] public section

set_option maxRecDepth 16384

noncomputable section
namespace Cert.ReferenceIdeal.Hand
open Idealize.ShloMosaic Idealize.ShloMosaic.TcCoe Idealize.ShloMosaic.Tactic
open Cert.ReferenceIdeal Cert.ReferenceIdeal.Gen Cert.ReferenceIdeal.Value
open Cert.Hand

variable (V0 : Valuation τ sig (Elt Ideal))

/-- One level's gates over any planes, gathered. -/
theorem level2 (w : FVec Ideal S16x4x4 .f32) (u v : FVec Ideal S2x16x4x12321 .f32) (a : IVec S2x24642 32) (b : Fin 2) (o : Fin 16) (r : Fin 2) (n : Fin 2) (p : Fin 12321)
    (h : (a (ix2 r (⟨n.val * 12321 + p.val, by omega⟩ : Fin 24642)) : BitVec 32).toNat = (2 * n.val + r.val) * 12321 + p.val) :
    (Host.gather gather_S2x16x49284_S2x24642x1_S2x16x2x24642_01_2_n_n_2_2_2161 (shapeCast _ (addf (addf (addf (mulf (mulf (broadcastInDim S2x16x4x12321 ![0, 1, 2, 3] bcast_S1x16x4x1_S2x16x4x12321_0_1_2_3 (broadcastInDim S1x16x4x1 ![1, 2] bcast_S16x4_S1x16x4x1_1_2 (shapeCast _ (extractStridedSlice S16x4x1 ![0, 0, 0] w slices_S16x4x4_S16x4x1_0_0_0) shapeCasts_S16x4x1_S16x4))) (subf (broadcastInDim S2x16x4x12321 ![] bcast_S_S2x16x4x12321 (constant S_ .f32 0x3F800000#32)) u)) (subf (broadcastInDim S2x16x4x12321 ![] bcast_S_S2x16x4x12321 (constant S_ .f32 0x3F800000#32)) v)) (mulf (mulf (broadcastInDim S2x16x4x12321 ![0, 1, 2, 3] bcast_S1x16x4x1_S2x16x4x12321_0_1_2_3 (broadcastInDim S1x16x4x1 ![1, 2] bcast_S16x4_S1x16x4x1_1_2 (shapeCast _ (extractStridedSlice S16x4x1 ![0, 0, 1] w slices_S16x4x4_S16x4x1_0_0_1) shapeCasts_S16x4x1_S16x4))) (subf (broadcastInDim S2x16x4x12321 ![] bcast_S_S2x16x4x12321 (constant S_ .f32 0x3F800000#32)) u)) v)) (mulf (mulf (broadcastInDim S2x16x4x12321 ![0, 1, 2, 3] bcast_S1x16x4x1_S2x16x4x12321_0_1_2_3 (broadcastInDim S1x16x4x1 ![1, 2] bcast_S16x4_S1x16x4x1_1_2 (shapeCast _ (extractStridedSlice S16x4x1 ![0, 0, 2] w slices_S16x4x4_S16x4x1_0_0_2) shapeCasts_S16x4x1_S16x4))) u) (subf (broadcastInDim S2x16x4x12321 ![] bcast_S_S2x16x4x12321 (constant S_ .f32 0x3F800000#32)) v))) (mulf (mulf (broadcastInDim S2x16x4x12321 ![0, 1, 2, 3] bcast_S1x16x4x1_S2x16x4x12321_0_1_2_3 (broadcastInDim S1x16x4x1 ![1, 2] bcast_S16x4_S1x16x4x1_1_2 (shapeCast _ (extractStridedSlice S16x4x1 ![0, 0, 3] w slices_S16x4x4_S16x4x1_0_0_3) shapeCasts_S16x4x1_S16x4))) u) v)) shapeCasts_S2x16x4x12321_S2x16x49284) (broadcastInDim S2x24642x1 ![0, 1] bcast_S2x24642_S2x24642x1_0_1 (select (cmpi .slt a (broadcastInDim S2x24642 ![] bcast_S_S2x24642 (constantI S_ 32 0#32))) (addi a (broadcastInDim S2x24642 ![] bcast_S_S2x24642 (constantI S_ 32 49284#32))) a))) (ix4 b o r (⟨n.val * 12321 + p.val, by omega⟩ : Fin 24642))
      = blend (fun k => w (ix3 o (⟨2 * n.val + r.val, by omega⟩ : Fin 4) k)) (u (ix4 b o (⟨2 * n.val + r.val, by omega⟩ : Fin 4) p)) (v (ix4 b o (⟨2 * n.val + r.val, by omega⟩ : Fin 4) p)) := by
  refine (gather_along _ _ _ b o r _ (⟨(2 * n.val + r.val) * 12321 + p.val, by omega⟩ : Fin 49284) ?_).trans ?_
  · pointwise
    have hv := h.trans_lt (show (2 * n.val + r.val) * 12321 + p.val < 2 ^ 31 by omega)
    rw [kept_word _ hv, toInt_word hv]
    exact h
  · pointwise
    have e : ((2 * n.val + r.val) * 12321 + p.val) / 12321 = 2 * n.val + r.val := by omega
    simp only [e]
    exact blend_of rfl rfl rfl rfl rfl rfl

theorem v150_entry (b : Fin 2) (o : Fin 16) (r : Fin 2) (n : Fin 2) (p : Fin 12321)
    (h : (V0 (Proc.devRef .tc main_arg7) (ix2 r (⟨n.val * 12321 + p.val, by omega⟩ : Fin 24642)) : BitVec 32).toNat = (2 * n.val + r.val) * 12321 + p.val) :
    res_main_v150 V0 (ix4 b o r (⟨n.val * 12321 + p.val, by omega⟩ : Fin 24642)) = blend (fun k => res_main_v107 V0 (ix3 o (⟨2 * n.val + r.val, by omega⟩ : Fin 4) k))
      (res_main_v90 V0 (ix4 b o (⟨2 * n.val + r.val, by omega⟩ : Fin 4) p)) (res_main_v93 V0 (ix4 b o (⟨2 * n.val + r.val, by omega⟩ : Fin 4) p)) :=
  level2 (res_main_v107 V0) (res_main_v90 V0) (res_main_v93 V0) (V0 (Proc.devRef .tc main_arg7)) b o r n p h

theorem v153_entry (b : Fin 2) (o : Fin 16) (n : Fin 2) (p : Fin 12321) :
    res_main_v153 V0 (ix4 b o n p) = res_main_v150 V0 (ix4 b o 0 (⟨n.val * 12321 + p.val, by omega⟩ : Fin 24642)) := by
  unfold res_main_v153; pointwise

theorem v156_entry (b : Fin 2) (o : Fin 16) (n : Fin 2) (p : Fin 12321) :
    res_main_v156 V0 (ix4 b o n p) = res_main_v150 V0 (ix4 b o 1 (⟨n.val * 12321 + p.val, by omega⟩ : Fin 24642)) := by
  unfold res_main_v156; pointwise

end Cert.ReferenceIdeal.Hand
end
-- ==== Proof.RefLevel3.lean ====
/- The reference's last two planes. -/
module

public import proofs.«01_k».proof.Proof.Gen.ReferenceIdeal.Run
public import proofs.«01_k».proof.Proof.Gates
public import proofs.«01_k».proof.Proof.Gathers
public import Idealize.ShloMosaic.Lib.Pointwise
public import Idealize.ShloMosaic.Lib.Pipeline.ValueKit.Point
public import Idealize.ShloMosaic.Lib.Claim

@[expose] public section

set_option maxRecDepth 16384

noncomputable section
namespace Cert.ReferenceIdeal.Hand
open Idealize.ShloMosaic Idealize.ShloMosaic.TcCoe Idealize.ShloMosaic.Tactic
open Cert.ReferenceIdeal Cert.ReferenceIdeal.Gen Cert.ReferenceIdeal.Value
open Cert.Hand

variable (V0 : Valuation τ sig (Elt Ideal))

/-- One level's gates over any planes, gathered. -/
theorem level3 (w : FVec Ideal S16x2x4 .f32) (u v : FVec Ideal S2x16x2x12321 .f32) (a : IVec S2x12321 32) (b : Fin 2) (o : Fin 16) (r : Fin 2) (p : Fin 12321)
    (h : (a (ix2 r p) : BitVec 32).toNat = r.val * 12321 + p.val) :
    (Host.gather gather_S2x16x24642_S2x12321x1_S2x16x2x12321_01_2_n_n_2_2_2161 (shapeCast _ (addf (addf (addf (mulf (mulf (broadcastInDim S2x16x2x12321 ![0, 1, 2, 3] bcast_S1x16x2x1_S2x16x2x12321_0_1_2_3 (broadcastInDim S1x16x2x1 ![1, 2] bcast_S16x2_S1x16x2x1_1_2 (shapeCast _ (extractStridedSlice S16x2x1 ![0, 0, 0] w slices_S16x2x4_S16x2x1_0_0_0) shapeCasts_S16x2x1_S16x2))) (subf (broadcastInDim S2x16x2x12321 ![] bcast_S_S2x16x2x12321 (constant S_ .f32 0x3F800000#32)) u)) (subf (broadcastInDim S2x16x2x12321 ![] bcast_S_S2x16x2x12321 (constant S_ .f32 0x3F800000#32)) v)) (mulf (mulf (broadcastInDim S2x16x2x12321 ![0, 1, 2, 3] bcast_S1x16x2x1_S2x16x2x12321_0_1_2_3 (broadcastInDim S1x16x2x1 ![1, 2] bcast_S16x2_S1x16x2x1_1_2 (shapeCast _ (extractStridedSlice S16x2x1 ![0, 0, 1] w slices_S16x2x4_S16x2x1_0_0_1) shapeCasts_S16x2x1_S16x2))) (subf (broadcastInDim S2x16x2x12321 ![] bcast_S_S2x16x2x12321 (constant S_ .f32 0x3F800000#32)) u)) v)) (mulf (mulf (broadcastInDim S2x16x2x12321 ![0, 1, 2, 3] bcast_S1x16x2x1_S2x16x2x12321_0_1_2_3 (broadcastInDim S1x16x2x1 ![1, 2] bcast_S16x2_S1x16x2x1_1_2 (shapeCast _ (extractStridedSlice S16x2x1 ![0, 0, 2] w slices_S16x2x4_S16x2x1_0_0_2) shapeCasts_S16x2x1_S16x2))) u) (subf (broadcastInDim S2x16x2x12321 ![] bcast_S_S2x16x2x12321 (constant S_ .f32 0x3F800000#32)) v))) (mulf (mulf (broadcastInDim S2x16x2x12321 ![0, 1, 2, 3] bcast_S1x16x2x1_S2x16x2x12321_0_1_2_3 (broadcastInDim S1x16x2x1 ![1, 2] bcast_S16x2_S1x16x2x1_1_2 (shapeCast _ (extractStridedSlice S16x2x1 ![0, 0, 3] w slices_S16x2x4_S16x2x1_0_0_3) shapeCasts_S16x2x1_S16x2))) u) v)) shapeCasts_S2x16x2x12321_S2x16x24642) (broadcastInDim S2x12321x1 ![0, 1] bcast_S2x12321_S2x12321x1_0_1 (select (cmpi .slt a (broadcastInDim S2x12321 ![] bcast_S_S2x12321 (constantI S_ 32 0#32))) (addi a (broadcastInDim S2x12321 ![] bcast_S_S2x12321 (constantI S_ 32 24642#32))) a))) (ix4 b o r p)
      = blend (fun k => w (ix3 o r k)) (u (ix4 b o r p)) (v (ix4 b o r p)) := by
  refine (gather_along _ _ _ b o r _ (⟨r.val * 12321 + p.val, by omega⟩ : Fin 24642) ?_).trans ?_
  · pointwise
    have hv := h.trans_lt (show r.val * 12321 + p.val < 2 ^ 31 by omega)
    rw [kept_word _ hv, toInt_word hv]
    exact h
  · pointwise
    exact blend_of rfl rfl rfl rfl rfl rfl

theorem v213_entry (b : Fin 2) (o : Fin 16) (r : Fin 2) (p : Fin 12321)
    (h : (V0 (Proc.devRef .tc main_arg8) (ix2 r p) : BitVec 32).toNat = r.val * 12321 + p.val) :
    res_main_v213 V0 (ix4 b o r p) = blend (fun k => res_main_v170 V0 (ix3 o r k)) (res_main_v153 V0 (ix4 b o r p)) (res_main_v156 V0 (ix4 b o r p)) :=
  level3 (res_main_v170 V0) (res_main_v153 V0) (res_main_v156 V0) (V0 (Proc.devRef .tc main_arg8)) b o r p h

theorem v216_entry (b : Fin 2) (o : Fin 16) (p : Fin 12321) : res_main_v216 V0 (ix4 b o (0 : Fin 1) p) = res_main_v213 V0 (ix4 b o 0 p) := by
  unfold res_main_v216; pointwise

theorem v219_entry (b : Fin 2) (o : Fin 16) (p : Fin 12321) : res_main_v219 V0 (ix4 b o (0 : Fin 1) p) = res_main_v213 V0 (ix4 b o 1 p) := by
  unfold res_main_v219; pointwise

end Cert.ReferenceIdeal.Hand
end
-- ==== Proof.RefTaps.lean ====
/- Where the reference's leaves read the image. -/
module

public import proofs.«01_k».proof.Proof.Gen.ReferenceIdeal.Run
public import proofs.«01_k».proof.Proof.Gates
public import proofs.«01_k».proof.Proof.Gathers
public import Idealize.ShloMosaic.Lib.Pointwise
public import Idealize.ShloMosaic.Lib.Pipeline.ValueKit.Point
public import Idealize.ShloMosaic.Lib.Claim

@[expose] public section

set_option maxRecDepth 16384

noncomputable section
namespace Cert.ReferenceIdeal.Hand
open Idealize.ShloMosaic Idealize.ShloMosaic.TcCoe Idealize.ShloMosaic.Tactic
open Cert.ReferenceIdeal Cert.ReferenceIdeal.Gen Cert.ReferenceIdeal.Value
open Cert.Hand

variable (V0 : Valuation τ sig (Elt Ideal))

theorem v1_entry (r : Fin 2) (o : Fin 16) (q : Fin 98568) : res_main_v1 V0 (ix3 r o q) = V0 (Proc.devRef .tc main_arg5) (ix4 r o q (0 : Fin 3)) := by
  unfold res_main_v1; pointwise
theorem v3_entry (r : Fin 2) (o : Fin 16) (q : Fin 98568) : res_main_v3 V0 (ix3 r o q) = V0 (Proc.devRef .tc main_arg5) (ix4 r o q (1 : Fin 3)) := by
  unfold res_main_v3; pointwise
theorem v5_entry (r : Fin 2) (o : Fin 16) (q : Fin 98568) : res_main_v5 V0 (ix3 r o q) = V0 (Proc.devRef .tc main_arg5) (ix4 r o q (2 : Fin 3)) := by
  unfold res_main_v5; pointwise

/-- The words the image is gathered at: channel, row, column. -/
def tapWords : IVec S2x16x98568x3 32 :=
  ((concatenate S2x16x98568x3 3 [⟨S2x16x98568x1, ((broadcastInDim S2x16x98568x1 ![0, 1, 2] bcast_S2x16x98568_S2x16x98568x1_0_1_2 (select (cmpi .slt (res_main_v5 V0) (broadcastInDim S2x16x98568 ![] bcast_S_S2x16x98568 (constantI S_ 32 0#32))) (addi (res_main_v5 V0) (broadcastInDim S2x16x98568 ![] bcast_S_S2x16x98568 (constantI S_ 32 96#32))) (res_main_v5 V0))) : (⟨S2x16x98568x1, .i32⟩ : BufTy).Contents (Elt Ideal))⟩, ⟨S2x16x98568x1, ((broadcastInDim S2x16x98568x1 ![0, 1, 2] bcast_S2x16x98568_S2x16x98568x1_0_1_2 (select (cmpi .slt (res_main_v1 V0) (broadcastInDim S2x16x98568 ![] bcast_S_S2x16x98568 (constantI S_ 32 0#32))) (addi (res_main_v1 V0) (broadcastInDim S2x16x98568 ![] bcast_S_S2x16x98568 (constantI S_ 32 224#32))) (res_main_v1 V0))) : (⟨S2x16x98568x1, .i32⟩ : BufTy).Contents (Elt Ideal))⟩, ⟨S2x16x98568x1, ((broadcastInDim S2x16x98568x1 ![0, 1, 2] bcast_S2x16x98568_S2x16x98568x1_0_1_2 (select (cmpi .slt (res_main_v3 V0) (broadcastInDim S2x16x98568 ![] bcast_S_S2x16x98568 (constantI S_ 32 0#32))) (addi (res_main_v3 V0) (broadcastInDim S2x16x98568 ![] bcast_S_S2x16x98568 (constantI S_ 32 224#32))) (res_main_v3 V0))) : (⟨S2x16x98568x1, .i32⟩ : BufTy).Contents (Elt Ideal))⟩] concatenates_S2x16x98568x1_S2x16x98568x1_S2x16x98568x1_S2x16x98568x3_d3 : (⟨S2x16x98568x3, .i32⟩ : BufTy).Contents (Elt Ideal)))

theorem v26_words : res_main_v26 V0 = shapeCast S2x2x16x8x12321 (Host.gather gather_S2x96x224x224_S2x16x98568x3_S2x2x16x98568_0_123_n_n_123_3_2111 (V0 (Proc.devRef .tc main_arg0)) (tapWords V0))
    shapeCasts_S2x2x16x98568_S2x2x16x8x12321 := rfl

theorem tapWords_channel (r : Fin 2) (o : Fin 16) (q : Fin 98568) (h : (V0 (Proc.devRef .tc main_arg5) (ix4 r o q (2 : Fin 3)) : BitVec 32).toNat < 2 ^ 31) :
    tapWords V0 (ix4 r o q 0) = V0 (Proc.devRef .tc main_arg5) (ix4 r o q (2 : Fin 3)) := by
  unfold tapWords
  pointwise
  refine (kept_word _ ?_).trans (v5_entry V0 r o q)
  rw [v5_entry]; exact h
theorem tapWords_row (r : Fin 2) (o : Fin 16) (q : Fin 98568) (h : (V0 (Proc.devRef .tc main_arg5) (ix4 r o q (0 : Fin 3)) : BitVec 32).toNat < 2 ^ 31) :
    tapWords V0 (ix4 r o q 1) = V0 (Proc.devRef .tc main_arg5) (ix4 r o q (0 : Fin 3)) := by
  unfold tapWords
  pointwise
  refine (kept_word _ ?_).trans (v1_entry V0 r o q)
  rw [v1_entry]; exact h
theorem tapWords_column (r : Fin 2) (o : Fin 16) (q : Fin 98568) (h : (V0 (Proc.devRef .tc main_arg5) (ix4 r o q (1 : Fin 3)) : BitVec 32).toNat < 2 ^ 31) :
    tapWords V0 (ix4 r o q 2) = V0 (Proc.devRef .tc main_arg5) (ix4 r o q (1 : Fin 3)) := by
  unfold tapWords
  pointwise
  refine (kept_word _ ?_).trans (v3_entry V0 r o q)
  rw [v3_entry]; exact h

/-- Where a tap reads: the image at the words the tap names. -/
theorem v26_entry (b r : Fin 2) (o : Fin 16) (l : Fin 8) (p : Fin 12321) (c : Fin 96) (h w : Fin 224)
    (hc : (V0 (Proc.devRef .tc main_arg5) (ix4 r o (⟨l.val * 12321 + p.val, by omega⟩ : Fin 98568) (2 : Fin 3)) : BitVec 32).toNat = c.val)
    (hh : (V0 (Proc.devRef .tc main_arg5) (ix4 r o (⟨l.val * 12321 + p.val, by omega⟩ : Fin 98568) (0 : Fin 3)) : BitVec 32).toNat = h.val)
    (hw : (V0 (Proc.devRef .tc main_arg5) (ix4 r o (⟨l.val * 12321 + p.val, by omega⟩ : Fin 98568) (1 : Fin 3)) : BitVec 32).toNat = w.val) :
    res_main_v26 V0 (ix5 b r o l p) = V0 (Proc.devRef .tc main_arg0) (ix4 b c h w) := by
  have hc' := hc.trans_lt (show c.val < 2 ^ 31 by omega)
  have hh' := hh.trans_lt (show h.val < 2 ^ 31 by omega)
  have hw' := hw.trans_lt (show w.val < 2 ^ 31 by omega)
  rw [v26_words]
  pointwise
  refine gather_tap _ _ _ b r o _ c h w ?_ ?_ ?_
  · rw [tapWords_channel V0 r o _ hc', toInt_word hc']; exact hc
  · rw [tapWords_row V0 r o _ hh', toInt_word hh']; exact hh
  · rw [tapWords_column V0 r o _ hw', toInt_word hw']; exact hw

theorem v28_entry (b : Fin 2) (o : Fin 16) (l : Fin 8) (p : Fin 12321) : res_main_v28 V0 (ix4 b o l p) = res_main_v26 V0 (ix5 b 0 o l p) := by
  unfold res_main_v28; pointwise

theorem v30_entry (b : Fin 2) (o : Fin 16) (l : Fin 8) (p : Fin 12321) : res_main_v30 V0 (ix4 b o l p) = res_main_v26 V0 (ix5 b 1 o l p) := by
  unfold res_main_v30; pointwise

end Cert.ReferenceIdeal.Hand
end
-- ==== Proof.RefResult.lean ====
/- The reference's result. -/
module

public import proofs.«01_k».proof.Proof.Gen.ReferenceIdeal.Run
public import proofs.«01_k».proof.Proof.Gates
public import proofs.«01_k».proof.Proof.Gathers
public import Idealize.ShloMosaic.Lib.Pointwise
public import Idealize.ShloMosaic.Lib.Pipeline.ValueKit.Point
public import Idealize.ShloMosaic.Lib.Claim

@[expose] public section

set_option maxRecDepth 16384

noncomputable section
namespace Cert.ReferenceIdeal.Hand
open Idealize.ShloMosaic Idealize.ShloMosaic.TcCoe Idealize.ShloMosaic.Tactic
open Cert.ReferenceIdeal Cert.ReferenceIdeal.Gen Cert.ReferenceIdeal.Value
open Cert.Hand

variable (V0 : Valuation τ sig (Elt Ideal))

/-- The result's buffer from the level's shares and the two planes below. -/
def result (V0 : Valuation τ sig (Elt Ideal)) : (Proc.devRef .tc main_v270 : DevRef τ sig).ty.Contents (Elt Ideal) :=
  shapeCast _ (shapeCast _ (addf (addf (addf (mulf (mulf (broadcastInDim S2x16x1x12321 ![0, 1, 2, 3] bcast_S1x16x1x1_S2x16x1x12321_0_1_2_3 (broadcastInDim S1x16x1x1 ![1, 2] bcast_S16x1_S1x16x1x1_1_2 (shapeCast _ (extractStridedSlice S16x1x1 ![0, 0, 0] (res_main_v233 V0) slices_S16x1x4_S16x1x1_0_0_0) shapeCasts_S16x1x1_S16x1))) (subf (broadcastInDim S2x16x1x12321 ![] bcast_S_S2x16x1x12321 (constant S_ .f32 0x3F800000#32)) (res_main_v216 V0))) (subf (broadcastInDim S2x16x1x12321 ![] bcast_S_S2x16x1x12321 (constant S_ .f32 0x3F800000#32)) (res_main_v219 V0))) (mulf (mulf (broadcastInDim S2x16x1x12321 ![0, 1, 2, 3] bcast_S1x16x1x1_S2x16x1x12321_0_1_2_3 (broadcastInDim S1x16x1x1 ![1, 2] bcast_S16x1_S1x16x1x1_1_2 (shapeCast _ (extractStridedSlice S16x1x1 ![0, 0, 1] (res_main_v233 V0) slices_S16x1x4_S16x1x1_0_0_1) shapeCasts_S16x1x1_S16x1))) (subf (broadcastInDim S2x16x1x12321 ![] bcast_S_S2x16x1x12321 (constant S_ .f32 0x3F800000#32)) (res_main_v216 V0))) (res_main_v219 V0))) (mulf (mulf (broadcastInDim S2x16x1x12321 ![0, 1, 2, 3] bcast_S1x16x1x1_S2x16x1x12321_0_1_2_3 (broadcastInDim S1x16x1x1 ![1, 2] bcast_S16x1_S1x16x1x1_1_2 (shapeCast _ (extractStridedSlice S16x1x1 ![0, 0, 2] (res_main_v233 V0) slices_S16x1x4_S16x1x1_0_0_2) shapeCasts_S16x1x1_S16x1))) (res_main_v216 V0)) (subf (broadcastInDim S2x16x1x12321 ![] bcast_S_S2x16x1x12321 (constant S_ .f32 0x3F800000#32)) (res_main_v219 V0)))) (mulf (mulf (broadcastInDim S2x16x1x12321 ![0, 1, 2, 3] bcast_S1x16x1x1_S2x16x1x12321_0_1_2_3 (broadcastInDim S1x16x1x1 ![1, 2] bcast_S16x1_S1x16x1x1_1_2 (shapeCast _ (extractStridedSlice S16x1x1 ![0, 0, 3] (res_main_v233 V0) slices_S16x1x4_S16x1x1_0_0_3) shapeCasts_S16x1x1_S16x1))) (res_main_v216 V0)) (res_main_v219 V0))) shapeCasts_S2x16x1x12321_S2x16x12321) shapeCasts_S2x16x12321_S2x16x111x111

/-- The last gate over any planes. -/
theorem top (w : FVec Ideal S16x1x4 .f32) (u v : FVec Ideal S2x16x1x12321 .f32) (b : Fin 2) (o : Fin 16) (y x : Fin 111) :
    (shapeCast _ (shapeCast _ (addf (addf (addf (mulf (mulf (broadcastInDim S2x16x1x12321 ![0, 1, 2, 3] bcast_S1x16x1x1_S2x16x1x12321_0_1_2_3 (broadcastInDim S1x16x1x1 ![1, 2] bcast_S16x1_S1x16x1x1_1_2 (shapeCast _ (extractStridedSlice S16x1x1 ![0, 0, 0] w slices_S16x1x4_S16x1x1_0_0_0) shapeCasts_S16x1x1_S16x1))) (subf (broadcastInDim S2x16x1x12321 ![] bcast_S_S2x16x1x12321 (constant S_ .f32 0x3F800000#32)) u)) (subf (broadcastInDim S2x16x1x12321 ![] bcast_S_S2x16x1x12321 (constant S_ .f32 0x3F800000#32)) v)) (mulf (mulf (broadcastInDim S2x16x1x12321 ![0, 1, 2, 3] bcast_S1x16x1x1_S2x16x1x12321_0_1_2_3 (broadcastInDim S1x16x1x1 ![1, 2] bcast_S16x1_S1x16x1x1_1_2 (shapeCast _ (extractStridedSlice S16x1x1 ![0, 0, 1] w slices_S16x1x4_S16x1x1_0_0_1) shapeCasts_S16x1x1_S16x1))) (subf (broadcastInDim S2x16x1x12321 ![] bcast_S_S2x16x1x12321 (constant S_ .f32 0x3F800000#32)) u)) v)) (mulf (mulf (broadcastInDim S2x16x1x12321 ![0, 1, 2, 3] bcast_S1x16x1x1_S2x16x1x12321_0_1_2_3 (broadcastInDim S1x16x1x1 ![1, 2] bcast_S16x1_S1x16x1x1_1_2 (shapeCast _ (extractStridedSlice S16x1x1 ![0, 0, 2] w slices_S16x1x4_S16x1x1_0_0_2) shapeCasts_S16x1x1_S16x1))) u) (subf (broadcastInDim S2x16x1x12321 ![] bcast_S_S2x16x1x12321 (constant S_ .f32 0x3F800000#32)) v))) (mulf (mulf (broadcastInDim S2x16x1x12321 ![0, 1, 2, 3] bcast_S1x16x1x1_S2x16x1x12321_0_1_2_3 (broadcastInDim S1x16x1x1 ![1, 2] bcast_S16x1_S1x16x1x1_1_2 (shapeCast _ (extractStridedSlice S16x1x1 ![0, 0, 3] w slices_S16x1x4_S16x1x1_0_0_3) shapeCasts_S16x1x1_S16x1))) u) v)) shapeCasts_S2x16x1x12321_S2x16x12321) shapeCasts_S2x16x12321_S2x16x111x111 : FVec Ideal S2x16x111x111 .f32) (ix4 b o y x) = blend (fun k => w (ix3 o 0 k))
      (u (ix4 b o 0 (⟨y.val * 111 + x.val, by omega⟩ : Fin 12321))) (v (ix4 b o 0 (⟨y.val * 111 + x.val, by omega⟩ : Fin 12321))) := by
  pointwise
  exact blend_of rfl rfl rfl rfl rfl rfl

theorem result_entry (b : Fin 2) (o : Fin 16) (y x : Fin 111) :
    result V0 (ix4 b o y x) = blend (fun k => res_main_v233 V0 (ix3 o 0 k))
      (res_main_v216 V0 (ix4 b o 0 (⟨y.val * 111 + x.val, by omega⟩ : Fin 12321))) (res_main_v219 V0 (ix4 b o 0 (⟨y.val * 111 + x.val, by omega⟩ : Fin 12321))) :=
  top (res_main_v233 V0) (res_main_v216 V0) (res_main_v219 V0) b o y x

end Cert.ReferenceIdeal.Hand
end
-- ==== Proof.RefTree.lean ====
/- The reference's result on drawn inputs: the tree of gates. -/
module

public import proofs.«01_k».proof.Proof.Gen.ReferenceIdeal.Run
public import proofs.«01_k».proof.Proof.Drawn
public import proofs.«01_k».proof.Proof.Places
public import proofs.«01_k».proof.Proof.RefShares
public import proofs.«01_k».proof.Proof.RefLevel1
public import proofs.«01_k».proof.Proof.RefLevel2
public import proofs.«01_k».proof.Proof.RefLevel3
public import proofs.«01_k».proof.Proof.RefTaps
public import proofs.«01_k».proof.Proof.RefResult
public import Idealize.ShloMosaic.Lib.Pointwise
public import Idealize.ShloMosaic.Lib.Pipeline.ValueKit.Point
public import Idealize.ShloMosaic.Lib.Claim

@[expose] public section

set_option maxRecDepth 16384

noncomputable section
namespace Cert.ReferenceIdeal.Hand
open Idealize.ShloMosaic Idealize.ShloMosaic.TcCoe Idealize.ShloMosaic.Tactic
open Cert.ReferenceIdeal Cert.ReferenceIdeal.Gen Cert.ReferenceIdeal.Value
open Cert.Hand

variable (V0 : Valuation τ sig (Elt Ideal))

/-- The inputs of the reference are drawn. -/
abbrev DrawnRef : Prop := Drawn (V0 (Proc.devRef .tc main_arg0)) (V0 (Proc.devRef .tc main_arg1)) (V0 (Proc.devRef .tc main_arg2)) (V0 (Proc.devRef .tc main_arg3))
  (V0 (Proc.devRef .tc main_arg4)) (V0 (Proc.devRef .tc main_arg5)) (V0 (Proc.devRef .tc main_arg6)) (V0 (Proc.devRef .tc main_arg7)) (V0 (Proc.devRef .tc main_arg8))

theorem tap_value (h : DrawnRef V0) (b : Fin 2) (o : Fin 16) (y x : Fin 111) (r : Fin 2) (l : Fin 8) :
    res_main_v26 V0 (ix5 b r o l (⟨y.val * 111 + x.val, by omega⟩ : Fin 12321))
      = leafAt (V0 (Proc.devRef .tc main_arg0)) (V0 (Proc.devRef .tc main_arg5)) b o y x r l := by
  have e : (⟨l.val * 12321 + (y.val * 111 + x.val), by omega⟩ : Fin 98568) = ⟨l.val * 12321 + y.val * 111 + x.val, by omega⟩ := Fin.ext (by simp; omega)
  have hr := h.row_le r o l
  have hc := h.col_le r o l
  have hk := h.chan_le r o l
  unfold leafAt corner
  refine v26_entry V0 b r o l _ _ _ _ ?_ ?_ ?_
  · refine (congrArg (fun q => (V0 (Proc.devRef .tc main_arg5) (ix4 r o q (2 : Fin 3)) : BitVec 32).toNat) e).trans ((h.chan r o l y x).trans ?_)
    exact (Nat.mod_eq_of_lt (by omega)).symm
  · refine (congrArg (fun q => (V0 (Proc.devRef .tc main_arg5) (ix4 r o q (0 : Fin 3)) : BitVec 32).toNat) e).trans ((h.row r o l y x).trans ?_)
    exact (Nat.mod_eq_of_lt (by omega)).symm
  · refine (congrArg (fun q => (V0 (Proc.devRef .tc main_arg5) (ix4 r o q (1 : Fin 3)) : BitVec 32).toNat) e).trans ((h.col r o l y x).trans ?_)
    exact (Nat.mod_eq_of_lt (by omega)).symm

/-- The reference's result is the problem's tree over the leaves. -/
theorem result_tree (h : DrawnRef V0) (b : Fin 2) (o : Fin 16) (y x : Fin 111) :
    result V0 (ix4 b o y x) = tree blend (levelShares (V0 (Proc.devRef .tc main_arg1)) o) (levelShares (V0 (Proc.devRef .tc main_arg2)) o)
      (levelShares (V0 (Proc.devRef .tc main_arg3)) o) (levelShares (V0 (Proc.devRef .tc main_arg4)) o)
      (leafAt (V0 (Proc.devRef .tc main_arg0)) (V0 (Proc.devRef .tc main_arg5)) b o y x) := by
  rw [result_entry]
  generalize hX : leafAt (V0 (Proc.devRef .tc main_arg0)) (V0 (Proc.devRef .tc main_arg5)) b o y x = X
  have h1 : ∀ (r : Fin 2) (n : Fin 4), res_main_v87 V0 (ix4 b o r (⟨n.val * 12321 + (y.val * 111 + x.val), by omega⟩ : Fin 49284))
      = (fun l : Fin 8 => blend (levelShares (V0 (Proc.devRef .tc main_arg1)) o l) (X 0 l) (X 1 l)) ⟨2 * n.val + r.val, by omega⟩ := fun r n => by
    rw [v87_entry V0 b o r n ⟨y.val * 111 + x.val, by omega⟩ (h.level1 r n ⟨y.val * 111 + x.val, by omega⟩), v28_entry, v30_entry, tap_value V0 h, tap_value V0 h, hX]
    simp only [v44_entry]
    rfl
  generalize hN0 : (fun l : Fin 8 => blend (levelShares (V0 (Proc.devRef .tc main_arg1)) o l) (X 0 l) (X 1 l)) = N0 at h1
  have h2 : ∀ (r : Fin 2) (n : Fin 2), res_main_v150 V0 (ix4 b o r (⟨n.val * 12321 + (y.val * 111 + x.val), by omega⟩ : Fin 24642))
      = pair (n := 4) blend (levelShares (V0 (Proc.devRef .tc main_arg2)) o) N0 ⟨2 * n.val + r.val, by omega⟩ := fun r n => by
    rw [v150_entry V0 b o r n ⟨y.val * 111 + x.val, by omega⟩ (h.level2 r n ⟨y.val * 111 + x.val, by omega⟩), v90_entry, v93_entry]
    simp only [v107_entry]
    exact congrArg₂ (blend _) (h1 0 ⟨2 * n.val + r.val, by omega⟩) (h1 1 ⟨2 * n.val + r.val, by omega⟩)
  generalize hN1 : pair (n := 4) blend (levelShares (V0 (Proc.devRef .tc main_arg2)) o) N0 = N1 at h2
  have h3 : ∀ (r : Fin 2), res_main_v213 V0 (ix4 b o r (⟨y.val * 111 + x.val, by omega⟩ : Fin 12321))
      = pair (n := 2) blend (levelShares (V0 (Proc.devRef .tc main_arg3)) o) N1 r := fun r => by
    rw [v213_entry V0 b o r ⟨y.val * 111 + x.val, by omega⟩ (h.level3 r ⟨y.val * 111 + x.val, by omega⟩), v153_entry, v156_entry]
    simp only [v170_entry]
    exact congrArg₂ (blend _) (h2 0 r) (h2 1 r)
  subst hN1 hN0
  rw [v216_entry, v219_entry]
  simp only [v233_entry]
  exact congrArg₂ (blend _) (h3 0) (h3 1)

end Cert.ReferenceIdeal.Hand
end
-- ==== Proof.lean ====
module

public import proofs.«01_k».proof.Defs
public import proofs.«01_k».proof.Proof.EntriesK
public import proofs.«01_k».proof.Proof.Entries
public import proofs.«01_k».proof.Proof.Channels
public import proofs.«01_k».proof.Proof.Drawn
public import proofs.«01_k».proof.Proof.KernelResult
public import proofs.«01_k».proof.Proof.RefTree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

/-- The shape relations the precondition on channels states. -/
instance channels_facts : Cert.Pre_channels_named.Facts where
  slices_S2x16x98568x3_S2x16x98568x1_0_0_0_2 := by decide
  shapeCasts_S2x16x98568x1_S2x16x98568 := by decide
  bcast_S_S2x16x98568 := by decide

/-- The shape relations the precondition on the inputs states. -/
instance drawn_facts : Cert.Pre_drawn.Facts where
  shapeCasts_S2x16x98568x3_S2x16x8x111x111x3 := by decide
  slices_S2x16x8x111x111x3_S2x16x8x1x1x3_0_0_0_0_0_0 := by decide
  bcast_S_S2x96x224x224 := by decide
  bcast_S_S8x16x4 := by decide
  bcast_S_S4x16x4 := by decide
  bcast_S_S2x16x4 := by decide
  bcast_S_S1x16x4 := by decide
  slices_S2x16x8x111x111x3_S2x16x8x111x111x1_0_0_0_0_0_0 := by decide
  shapeCasts_S2x16x8x111x111x1_S2x16x8x111x111 := by decide
  slices_S2x16x8x1x1x3_S2x16x8x1x1x1_0_0_0_0_0_0 := by decide
  shapeCasts_S2x16x8x1x1x1_S2x16x8x1x1 := by decide
  bcast_S_S2x16x8x111x111 := by decide
  bcast_S2x16x8x1x1_S2x16x8x111x111_0_1_2_3_4 := by decide
  slices_S2x16x8x111x111x3_S2x16x8x111x111x1_0_0_0_0_0_1 := by decide
  slices_S2x16x8x1x1x3_S2x16x8x1x1x1_0_0_0_0_0_1 := by decide
  slices_S2x16x8x111x111x3_S2x16x8x111x111x1_0_0_0_0_0_2 := by decide
  slices_S2x16x8x1x1x3_S2x16x8x1x1x1_0_0_0_0_0_2 := by decide
  bcast_S_S2x16x8x1x1 := by decide
  shapeCasts_S2x49284_S2x4x12321 := by decide
  bcast_S_S2x4x12321 := by decide
  shapeCasts_S2x24642_S2x2x12321 := by decide
  bcast_S_S2x2x12321 := by decide
  shapeCasts_S2x12321_S2x1x12321 := by decide
  bcast_S_S2x1x12321 := by decide

theorem kernel_frame : Cert.quiescent_Kernel (hKernel := Cert.Kernel.Gen.facts) (hPre_channels_named := channels_facts) := fun m g h =>
  Cert.Kernel.Hand.frame m g (Cert.Kernel.Hand.named_of_arg m fun c r o p => Cert.Hand.channel_below (h c) r o p)

theorem ideal_frame : Cert.quiescent_KernelIdeal (hKernelIdeal := Cert.KernelIdeal.Gen.facts) (hPre_channels_named := channels_facts) := fun m g h =>
  Cert.KernelIdeal.Hand.frame m g (Cert.KernelIdeal.Hand.named_of_arg m fun c r o p => Cert.Hand.channel_below (h c) r o p)

theorem reference_frame : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run m g)

/-- The kernel's inputs under the precondition, entry by entry. -/
theorem kernel_drawn (m : (ℓ : Loc Cert.KernelIdeal.nD Cert.KernelIdeal.τ Cert.KernelIdeal.sig) → Buf (Elt Ideal) ℓ)
    (h : Cert.Pre_KernelIdeal_drawn (hPre_drawn := drawn_facts) m) (c : Dev Cert.KernelIdeal.nD) : Cert.KernelIdeal.Hand.DrawnKernel m c :=
  Cert.Hand.drawn_of (h c)

theorem ideal_frame_drawn : Cert.quiescent_KernelIdeal_pre_drawn (hKernelIdeal := Cert.KernelIdeal.Gen.facts) (hPre_drawn := drawn_facts) := fun m g h =>
  Cert.KernelIdeal.Hand.frame m g (Cert.KernelIdeal.Hand.named_of_drawn m (kernel_drawn m h))

theorem reference_frame_drawn : Cert.quiescent_ReferenceIdeal_pre_drawn (hReferenceIdeal := Cert.ReferenceIdeal.Gen.facts) (hPre_drawn := drawn_facts) := fun m g _ =>
  (θ_run _ _ _).mono (fun r h => ⟨fun c => (h c).2, sem_eq_zero_of_no_sems rfl _⟩) (Cert.ReferenceIdeal.Value.run m g)

/-- On the same drawn inputs, the reference's result is the kernel's. -/
theorem results_agree (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal)) (h : Cert.KernelIdeal.Hand.DrawnKernel m c)
    (e0 : V0 (Proc.devRef .tc Cert.ReferenceIdeal.main_arg0) = m ((c.tc : Thread Cert.KernelIdeal.nD Cert.KernelIdeal.τ).loc Cert.KernelIdeal.main_arg0))
    (e1 : V0 (Proc.devRef .tc Cert.ReferenceIdeal.main_arg1) = m ((c.tc : Thread Cert.KernelIdeal.nD Cert.KernelIdeal.τ).loc Cert.KernelIdeal.main_arg1))
    (e2 : V0 (Proc.devRef .tc Cert.ReferenceIdeal.main_arg2) = m ((c.tc : Thread Cert.KernelIdeal.nD Cert.KernelIdeal.τ).loc Cert.KernelIdeal.main_arg2))
    (e3 : V0 (Proc.devRef .tc Cert.ReferenceIdeal.main_arg3) = m ((c.tc : Thread Cert.KernelIdeal.nD Cert.KernelIdeal.τ).loc Cert.KernelIdeal.main_arg3))
    (e4 : V0 (Proc.devRef .tc Cert.ReferenceIdeal.main_arg4) = m ((c.tc : Thread Cert.KernelIdeal.nD Cert.KernelIdeal.τ).loc Cert.KernelIdeal.main_arg4))
    (e5 : V0 (Proc.devRef .tc Cert.ReferenceIdeal.main_arg5) = m ((c.tc : Thread Cert.KernelIdeal.nD Cert.KernelIdeal.τ).loc Cert.KernelIdeal.main_arg5))
    (e6 : V0 (Proc.devRef .tc Cert.ReferenceIdeal.main_arg6) = m ((c.tc : Thread Cert.KernelIdeal.nD Cert.KernelIdeal.τ).loc Cert.KernelIdeal.main_arg6))
    (e7 : V0 (Proc.devRef .tc Cert.ReferenceIdeal.main_arg7) = m ((c.tc : Thread Cert.KernelIdeal.nD Cert.KernelIdeal.τ).loc Cert.KernelIdeal.main_arg7))
    (e8 : V0 (Proc.devRef .tc Cert.ReferenceIdeal.main_arg8) = m ((c.tc : Thread Cert.KernelIdeal.nD Cert.KernelIdeal.τ).loc Cert.KernelIdeal.main_arg8)) :
    Cert.ReferenceIdeal.Hand.result V0 = Cert.KernelIdeal.Hand.whole m c := by
  have hR : Cert.ReferenceIdeal.Hand.DrawnRef V0 := by
    unfold Cert.ReferenceIdeal.Hand.DrawnRef
    rw [e0, e1, e2, e3, e4, e5, e6, e7, e8]
    exact h
  funext i
  obtain ⟨b, o, y, x, rfl⟩ : ∃ (b : Fin 2) (o : Fin 16) (y x : Fin 111), i = ix4 b o y x := ⟨i 0, i 1, i 2, i 3, by funext a; fin_cases a <;> rfl⟩
  refine (Cert.ReferenceIdeal.Hand.result_tree V0 hR b o y x).trans ?_
  rw [e0, e1, e2, e3, e4, e5]
  exact (Cert.KernelIdeal.Hand.whole_entry m c b o y x).symm

/-- The reference's run, its result under its name. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
        r.2.mem ((c.tc : Thread Cert.ReferenceIdeal.nD Cert.ReferenceIdeal.τ).loc Cert.ReferenceIdeal.main_v270) = Cert.ReferenceIdeal.Hand.result (StableHlo.launchContents m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  Cert.ReferenceIdeal.Value.run m g

theorem same_result : Cert.algebraic_KernelIdeal_ReferenceIdeal_pre_drawn (hKernelIdeal := Cert.KernelIdeal.Gen.facts) (hReferenceIdeal := Cert.ReferenceIdeal.Gen.facts)
    (hPre_drawn := drawn_facts) := by
  intro m g m' g' h he
  refine ⟨Cert.KernelIdeal.Hand.whole m, Cert.KernelIdeal.Hand.run_whole m g (kernel_drawn m h), (θ_run _ _ _).mono (fun r hr c => ?_) (reference_run m' g')⟩
  obtain ⟨e0, e1, e2, e3, e4, e5, e6, e7, e8⟩ := he c
  exact ⟨(hr c).1.trans (results_agree m c _ (kernel_drawn m h c) e0 e1 e2 e3 e4 e5 e6 e7 e8), (hr c).2⟩

theorem claim : Cert.Claim := ⟨Cert.Kernel.Gen.facts, Cert.KernelIdeal.Gen.facts, Cert.ReferenceIdeal.Gen.facts, channels_facts, drawn_facts,
  kernel_frame, ideal_frame, ideal_frame_drawn, reference_frame, reference_frame_drawn, trivial, same_result⟩

end Cert.Proof

end
